-- ==== Defs.lean ====
def Pre_Kernel [hPre_pi_swaps_Kernel : Cert.Pre_pi_swaps_Kernel.Facts] (m : (ℓ : Loc Cert.Kernel.nD Cert.Kernel.τ Cert.Kernel.sig) → Buf (Elt Bits) ℓ) : Prop :=
  ∀ c : Dev Cert.Kernel.nD,
    (Cert.Pre_pi_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_stays_Kernel [hPre_pi_stays_Kernel : Cert.Pre_pi_stays_Kernel.Facts] (m : (ℓ : Loc Cert.Kernel.nD Cert.Kernel.τ Cert.Kernel.sig) → Buf (Elt Bits) ℓ) : Prop :=
  ∀ c : Dev Cert.Kernel.nD,
    (Cert.Pre_pi_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_swaps_Kernel : Cert.Pre_pi_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_stays_Kernel [hPre_pi_stays_Kernel : Cert.Pre_pi_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_swaps_ReferenceIdeal [hPre_pi_swaps_ReferenceIdeal : Cert.Pre_pi_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_stays_ReferenceIdeal [hPre_pi_stays_ReferenceIdeal : Cert.Pre_pi_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_swaps_Kernel : Cert.Pre_pi_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_stays_Kernel [hKernel : Cert.Kernel.Facts] [hPre_pi_stays_Kernel : Cert.Pre_pi_stays_Kernel.Facts] : Prop :=
  ∀ (m : (ℓ : Loc Cert.Kernel.nD Cert.Kernel.τ Cert.Kernel.sig) → Buf (Elt Bits) ℓ) (g : Dev Cert.Kernel.nD → PrngReg), Pre_Kernel_pi_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_stays_Kernel [hKernelIdeal : Cert.KernelIdeal.Facts] [hPre_pi_stays_Kernel : Cert.Pre_pi_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_swaps_ReferenceIdeal [hReferenceIdeal : Cert.ReferenceIdeal.Facts] [hPre_pi_swaps_ReferenceIdeal : Cert.Pre_pi_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_stays_ReferenceIdeal [hReferenceIdeal : Cert.ReferenceIdeal.Facts] [hPre_pi_stays_ReferenceIdeal : Cert.Pre_pi_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_stays_Kernel [hKernelIdeal : Cert.KernelIdeal.Facts] [hReferenceIdeal : Cert.ReferenceIdeal.Facts] [hPre_pi_stays_Kernel : Cert.Pre_pi_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_stays_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_swaps_Kernel : Cert.Pre_pi_swaps_Kernel.Facts) (hPre_pi_stays_Kernel : Cert.Pre_pi_stays_Kernel.Facts) (hPre_pi_swaps_ReferenceIdeal : Cert.Pre_pi_swaps_ReferenceIdeal.Facts) (hPre_pi_stays_ReferenceIdeal : Cert.Pre_pi_stays_ReferenceIdeal.Facts),
    quiescent_Kernel (hKernel := hKernel) (hPre_pi_swaps_Kernel := hPre_pi_swaps_Kernel)
    ∧ quiescent_Kernel_pre_pi_stays_Kernel (hKernel := hKernel) (hPre_pi_stays_Kernel := hPre_pi_stays_Kernel)
    ∧ quiescent_KernelIdeal (hKernelIdeal := hKernelIdeal) (hPre_pi_swaps_Kernel := hPre_pi_swaps_Kernel)
    ∧ quiescent_KernelIdeal_pre_pi_stays_Kernel (hKernelIdeal := hKernelIdeal) (hPre_pi_stays_Kernel := hPre_pi_stays_Kernel)
    ∧ quiescent_ReferenceIdeal (hReferenceIdeal := hReferenceIdeal)
    ∧ quiescent_ReferenceIdeal_pre_pi_swaps_ReferenceIdeal (hReferenceIdeal := hReferenceIdeal) (hPre_pi_swaps_ReferenceIdeal := hPre_pi_swaps_ReferenceIdeal)
    ∧ quiescent_ReferenceIdeal_pre_pi_stays_ReferenceIdeal (hReferenceIdeal := hReferenceIdeal) (hPre_pi_stays_ReferenceIdeal := hPre_pi_stays_ReferenceIdeal)
    ∧ preserves_Kernel_KernelIdeal
    ∧ algebraic_KernelIdeal_ReferenceIdeal (hKernelIdeal := hKernelIdeal) (hReferenceIdeal := hReferenceIdeal) (hPre_pi_swaps_Kernel := hPre_pi_swaps_Kernel)
    ∧ algebraic_KernelIdeal_ReferenceIdeal_pre_pi_stays_Kernel (hKernelIdeal := hKernelIdeal) (hReferenceIdeal := hReferenceIdeal) (hPre_pi_stays_Kernel := hPre_pi_stays_Kernel)
-- ==== Pre_pi_stays_Kernel.lean ====
abbrev S1x2048x1024 : Shape := ⟨3, ![1, 2048, 1024]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S1x2048x1024 .f32) (main_arg1 : IVec S2 32) : IVec S2 1 :=
  let main_c : IVec S2 32 := fun i => lit0 (S2.rowMajor i)
  let main_v0 : IVec S2 1 := cmpi .eq main_arg1 main_c
  main_v0
-- ==== Pre_pi_stays_ReferenceIdeal.lean ====
abbrev S2x2048x1024 : Shape := ⟨3, ![2, 2048, 1024]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S2x2048x1024 .f32) (main_arg1 : IVec S2 32) : IVec S2 1 :=
  let main_c : IVec S2 32 := fun i => lit0 (S2.rowMajor i)
  let main_v0 : IVec S2 1 := cmpi .eq main_arg1 main_c
  main_v0
-- ==== Pre_pi_swaps_Kernel.lean ====
abbrev S1x2048x1024 : Shape := ⟨3, ![1, 2048, 1024]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S1x2048x1024 .f32) (main_arg1 : IVec S2 32) : IVec S2 1 :=
  let main_c : IVec S2 32 := fun i => lit0 (S2.rowMajor i)
  let main_v0 : IVec S2 1 := cmpi .eq main_arg1 main_c
  main_v0
-- ==== Pre_pi_swaps_ReferenceIdeal.lean ====
abbrev S2x2048x1024 : Shape := ⟨3, ![2, 2048, 1024]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S2x2048x1024 .f32) (main_arg1 : IVec S2 32) : IVec S2 1 :=
  let main_c : IVec S2 32 := fun i => lit0 (S2.rowMajor i)
  let main_v0 : IVec S2 1 := cmpi .eq main_arg1 main_c
  main_v0
-- ==== Kernel.lean ====
abbrev S1x2048x1024 : Shape := ⟨3, ![1, 2048, 1024]⟩
abbrev S2 : Shape := ⟨1, ![2]⟩
abbrev S6x16 : Shape := ⟨2, ![6, 16]⟩
abbrev S1 : Shape := ⟨1, ![1]⟩
abbrev S_ : Shape := ⟨0, ![]⟩
abbrev S1x1 : Shape := ⟨2, ![1, 1]⟩
abbrev S1x32x1024 : Shape := ⟨3, ![1, 32, 1024]⟩
abbrev S1x176x1024 : Shape := ⟨3, ![1, 176, 1024]⟩
abbrev S1x168x1024 : Shape := ⟨3, ![1, 168, 1024]⟩

abbrev nBuf : Space → Nat
  | .hbm => 3
  | .vmem => 0
  | .smem => 1
  | _ => 0

abbrev bufTy : (tb : Table) → Fin (tcTables nBuf tb) → BufTy
  | .hbm, ⟨0, _⟩ => ⟨S1x2048x1024, .f32⟩
  | .hbm, ⟨1, _⟩ => ⟨S2, .i32⟩
  | .hbm, ⟨2, _⟩ => ⟨S1x2048x1024, .f32⟩
  | .local _ .smem, ⟨0, _⟩ => ⟨S2, .i32⟩
  | _, _ => ⟨S1x2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 193 → Bool
  | ⟨i, _⟩ => dmaSemScopedAt i

abbrev sig : RefSig :=
  (ofTc nBuf bufTy 1 193 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : Index := Scalar.indexCast v2
  ![v9.toNat]
def k0_dev1 (d0 : Dev nD) (v10 : BitVec 32) : Nat :=
  let c0_i32 : BitVec 32 := 0#32
  let c4_i32_17 : BitVec 32 := 4#32
  let v30 : BitVec 32 := Scalar.muli v10 c4_i32_17
  let v31 : BitVec 32 := Scalar.addi c0_i32 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v32 : BitVec 32 := Scalar.muli v5 c2_i32_18
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v34 : BitVec 32 := Scalar.muli v8 c1_i32_19
  let v35 : BitVec 32 := Scalar.addi v33 v34
  v35.toNat

def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_23 : BitVec 32 := 2#32
  let v38 : BitVec 32 := Scalar.muli v11 c2_i32_23
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v40 : BitVec 32 := Scalar.muli v8 c1_i32_24
  let v41 : BitVec 32 := Scalar.addi v39 v40
  v41.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v42 : BitVec 32 := Scalar.muli v2 c4_i32_26
  let v43 : BitVec 32 := Scalar.addi c0_i32_27 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v44 : BitVec 32 := Scalar.muli v5 c2_i32_28
  let v45 : BitVec 32 := Scalar.addi v43 v44
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_29 : BitVec 32 := 1#32
  let v46 : BitVec 32 := Scalar.muli v12 c1_i32_29
  let v47 : BitVec 32 := Scalar.addi v45 v46
  v47.toNat
def k0_off2 (d0 : Dev nD) (c0_i32_30 : BitVec 32) : Fin 3 → Nat :=
  let c0_i32_39 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_5 : BitVec 32 := 2#32
  let v13 : BitVec 32 := Scalar.muli v5 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.addi v13 v8
  let c512_i32 : BitVec 32 := 512#32
  let v15 : BitVec 32 := Scalar.muli v14 c512_i32
  let v48 : BitVec 32 := Scalar.addi v15 c0_i32_30
  let c0_i32_40 : BitVec 32 := 0#32
  ![0, v48.toNat, 0]
def k0_dev4 (d0 : Dev nD) (v10 : BitVec 32) : Nat :=
  let c0_i32_36 : BitVec 32 := 0#32
  let c4_i32_35 : BitVec 32 := 4#32
  let v49 : BitVec 32 := Scalar.muli v10 c4_i32_35
  let v50 : BitVec 32 := Scalar.addi c0_i32_36 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v51 : BitVec 32 := Scalar.muli v5 c2_i32_37
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_38 : BitVec 32 := 1#32
  let v53 : BitVec 32 := Scalar.muli v8 c1_i32_38
  let v54 : BitVec 32 := Scalar.addi v52 v53
  v54.toNat
def k0_dev5 (d0 : Dev nD) (v10 : BitVec 32) : Nat :=
  let c0_i32_48 : BitVec 32 := 0#32
  let c4_i32_47 : BitVec 32 := 4#32
  let v62 : BitVec 32 := Scalar.muli v10 c4_i32_47
  let v63 : BitVec 32 := Scalar.addi c0_i32_48 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v64 : BitVec 32 := Scalar.muli v5 c2_i32_49
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v66 : BitVec 32 := Scalar.muli v8 c1_i32_50
  let v67 : BitVec 32 := Scalar.addi v65 v66
  v67.toNat
def k0_dev6 (d0 : Dev nD) (v10 : BitVec 32) : Nat :=
  let c0_i32_60 : BitVec 32 := 0#32
  let c4_i32_59 : BitVec 32 := 4#32
  let v75 : BitVec 32 := Scalar.muli v10 c4_i32_59
  let v76 : BitVec 32 := Scalar.addi c0_i32_60 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v77 : BitVec 32 := Scalar.muli v5 c2_i32_61
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v79 : BitVec 32 := Scalar.muli v8 c1_i32_62
  let v80 : BitVec 32 := Scalar.addi v78 v79
  v80.toNat
def k0_dev7 (d0 : Dev nD) (v10 : BitVec 32) : Nat :=
  let c0_i32_72 : BitVec 32 := 0#32
  let c4_i32_71 : BitVec 32 := 4#32
  let v88 : BitVec 32 := Scalar.muli v10 c4_i32_71
  let v89 : BitVec 32 := Scalar.addi c0_i32_72 v88
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v90 : BitVec 32 := Scalar.muli v5 c2_i32_73
  let v91 : BitVec 32 := Scalar.addi v89 v90
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v92 : BitVec 32 := Scalar.muli v8 c1_i32_74
  let v93 : BitVec 32 := Scalar.addi v91 v92
  v93.toNat
def k0_dev8 (d0 : Dev nD) (v10 : BitVec 32) : Nat :=
  let c0_i32_84 : BitVec 32 := 0#32
  let c4_i32_83 : BitVec 32 := 4#32
  let v101 : BitVec 32 := Scalar.muli v10 c4_i32_83
  let v102 : BitVec 32 := Scalar.addi c0_i32_84 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v103 : BitVec 32 := Scalar.muli v5 c2_i32_85
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v105 : BitVec 32 := Scalar.muli v8 c1_i32_86
  let v106 : BitVec 32 := Scalar.addi v104 v105
  v106.toNat
def k0_dev9 (d0 : Dev nD) (v10 : BitVec 32) : Nat :=
  let c0_i32_95 : BitVec 32 := 0#32
  let c4_i32_94 : BitVec 32 := 4#32
  let v114 : BitVec 32 := Scalar.muli v10 c4_i32_94
  let v115 : BitVec 32 := Scalar.addi c0_i32_95 v114
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v116 : BitVec 32 := Scalar.muli v5 c2_i32_96
  let v117 : BitVec 32 := Scalar.addi v115 v116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_97 : BitVec 32 := 1#32
  let v118 : BitVec 32 := Scalar.muli v8 c1_i32_97
  let v119 : BitVec 32 := Scalar.addi v117 v118
  v119.toNat
def k0_dev10 (d0 : Dev nD) (v10 : BitVec 32) : Nat :=
  let c0_i32_106 : BitVec 32 := 0#32
  let c4_i32_105 : BitVec 32 := 4#32
  let v127 : BitVec 32 := Scalar.muli v10 c4_i32_105
  let v128 : BitVec 32 := Scalar.addi c0_i32_106 v127
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_107 : BitVec 32 := 2#32
  let v129 : BitVec 32 := Scalar.muli v5 c2_i32_107
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v131 : BitVec 32 := Scalar.muli v8 c1_i32_108
  let v132 : BitVec 32 := Scalar.addi v130 v131
  v132.toNat
def k0_dev11 (d0 : Dev nD) (v10 : BitVec 32) : Nat :=
  let c0_i32_117 : BitVec 32 := 0#32
  let c4_i32_116 : BitVec 32 := 4#32
  let v140 : BitVec 32 := Scalar.muli v10 c4_i32_116
  let v141 : BitVec 32 := Scalar.addi c0_i32_117 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_118 : BitVec 32 := 2#32
  let v142 : BitVec 32 := Scalar.muli v5 c2_i32_118
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_119 : BitVec 32 := 1#32
  let v144 : BitVec 32 := Scalar.muli v8 c1_i32_119
  let v145 : BitVec 32 := Scalar.addi v143 v144
  v145.toNat
def k0_dev12 (d0 : Dev nD) (v10 : BitVec 32) : Nat :=
  let c0_i32_128 : BitVec 32 := 0#32
  let c4_i32_127 : BitVec 32 := 4#32
  let v153 : BitVec 32 := Scalar.muli v10 c4_i32_127
  let v154 : BitVec 32 := Scalar.addi c0_i32_128 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v155 : BitVec 32 := Scalar.muli v5 c2_i32_129
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_130 : BitVec 32 := 1#32
  let v157 : BitVec 32 := Scalar.muli v8 c1_i32_130
  let v158 : BitVec 32 := Scalar.addi v156 v157
  v158.toNat
def k0_dev13 (d0 : Dev nD) (v10 : BitVec 32) : Nat :=
  let c0_i32_139 : BitVec 32 := 0#32
  let c4_i32_138 : BitVec 32 := 4#32
  let v166 : BitVec 32 := Scalar.muli v10 c4_i32_138
  let v167 : BitVec 32 := Scalar.addi c0_i32_139 v166
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_140 : BitVec 32 := 2#32
  let v168 : BitVec 32 := Scalar.muli v5 c2_i32_140
  let v169 : BitVec 32 := Scalar.addi v167 v168
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_141 : BitVec 32 := 1#32
  let v170 : BitVec 32 := Scalar.muli v8 c1_i32_141
  let v171 : BitVec 32 := Scalar.addi v169 v170
  v171.toNat
def k0_dev14 (d0 : Dev nD) (v10 : BitVec 32) : Nat :=
  let c0_i32_150 : BitVec 32 := 0#32
  let c4_i32_149 : BitVec 32 := 4#32
  let v179 : BitVec 32 := Scalar.muli v10 c4_i32_149
  let v180 : BitVec 32 := Scalar.addi c0_i32_150 v179
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_151 : BitVec 32 := 2#32
  let v181 : BitVec 32 := Scalar.muli v5 c2_i32_151
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v183 : BitVec 32 := Scalar.muli v8 c1_i32_152
  let v184 : BitVec 32 := Scalar.addi v182 v183
  v184.toNat
def k0_dev15 (d0 : Dev nD) (v10 : BitVec 32) : Nat :=
  let c0_i32_161 : BitVec 32 := 0#32
  let c4_i32_160 : BitVec 32 := 4#32
  let v192 : BitVec 32 := Scalar.muli v10 c4_i32_160
  let v193 : BitVec 32 := Scalar.addi c0_i32_161 v192
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_162 : BitVec 32 := 2#32
  let v194 : BitVec 32 := Scalar.muli v5 c2_i32_162
  let v195 : BitVec 32 := Scalar.addi v193 v194
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_163 : BitVec 32 := 1#32
  let v196 : BitVec 32 := Scalar.muli v8 c1_i32_163
  let v197 : BitVec 32 := Scalar.addi v195 v196
  v197.toNat
def k0_dev16 (d0 : Dev nD) (v10 : BitVec 32) : Nat :=
  let c0_i32_172 : BitVec 32 := 0#32
  let c4_i32_171 : BitVec 32 := 4#32
  let v205 : BitVec 32 := Scalar.muli v10 c4_i32_171
  let v206 : BitVec 32 := Scalar.addi c0_i32_172 v205
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_173 : BitVec 32 := 2#32
  let v207 : BitVec 32 := Scalar.muli v5 c2_i32_173
  let v208 : BitVec 32 := Scalar.addi v206 v207
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_174 : BitVec 32 := 1#32
  let v209 : BitVec 32 := Scalar.muli v8 c1_i32_174
  let v210 : BitVec 32 := Scalar.addi v208 v209
  v210.toNat
def k0_dev17 (d0 : Dev nD) (v10 : BitVec 32) : Nat :=
  let c0_i32_183 : BitVec 32 := 0#32
  let c4_i32_182 : BitVec 32 := 4#32
  let v218 : BitVec 32 := Scalar.muli v10 c4_i32_182
  let v219 : BitVec 32 := Scalar.addi c0_i32_183 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_184 : BitVec 32 := 2#32
  let v220 : BitVec 32 := Scalar.muli v5 c2_i32_184
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_185 : BitVec 32 := 1#32
  let v222 : BitVec 32 := Scalar.muli v8 c1_i32_185
  let v223 : BitVec 32 := Scalar.addi v221 v222
  v223.toNat
def k0_dev18 (d0 : Dev nD) (v10 : BitVec 32) : Nat :=
  let c0_i32_194 : BitVec 32 := 0#32
  let c4_i32_193 : BitVec 32 := 4#32
  let v231 : BitVec 32 := Scalar.muli v10 c4_i32_193
  let v232 : BitVec 32 := Scalar.addi c0_i32_194 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_195 : BitVec 32 := 2#32
  let v233 : BitVec 32 := Scalar.muli v5 c2_i32_195
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_196 : BitVec 32 := 1#32
  let v235 : BitVec 32 := Scalar.muli v8 c1_i32_196
  let v236 : BitVec 32 := Scalar.addi v234 v235
  v236.toNat
def k0_dev19 (d0 : Dev nD) (v10 : BitVec 32) : Nat :=
  let c0_i32_205 : BitVec 32 := 0#32
  let c4_i32_204 : BitVec 32 := 4#32
  let v244 : BitVec 32 := Scalar.muli v10 c4_i32_204
  let v245 : BitVec 32 := Scalar.addi c0_i32_205 v244
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_206 : BitVec 32 := 2#32
  let v246 : BitVec 32 := Scalar.muli v5 c2_i32_206
  let v247 : BitVec 32 := Scalar.addi v245 v246
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v248 : BitVec 32 := Scalar.muli v8 c1_i32_207
  let v249 : BitVec 32 := Scalar.addi v247 v248
  v249.toNat
def k0_off3 (d0 : Dev nD) : Fin 3 → Nat :=
  let c0_i32_220 : BitVec 32 := 0#32
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_12 v5
  let c2_i32_14 : BitVec 32 := 2#32
  let v26 : BitVec 32 := Scalar.muli v24 c2_i32_14
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_13 v8
  let v27 : BitVec 32 := Scalar.addi v26 v25
  let c512_i32_15 : BitVec 32 := 512#32
  let v28 : BitVec 32 := Scalar.muli v27 c512_i32_15
  let c0_i32_221 : BitVec 32 := 0#32
  ![0, v28.toNat, 0]
def k0_dev20 (d0 : Dev nD) (v10 : BitVec 32) : Nat :=
  let c0_i32_217 : BitVec 32 := 0#32
  let c4_i32_216 : BitVec 32 := 4#32
  let v256 : BitVec 32 := Scalar.muli v10 c4_i32_216
  let v257 : BitVec 32 := Scalar.addi c0_i32_217 v256
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_218 : BitVec 32 := 2#32
  let v258 : BitVec 32 := Scalar.muli v5 c2_i32_218
  let v259 : BitVec 32 := Scalar.addi v257 v258
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v260 : BitVec 32 := Scalar.muli v8 c1_i32_219
  let v261 : BitVec 32 := Scalar.addi v259 v260
  v261.toNat

def k0_chk1 (d0 : Dev nD) (v10 : BitVec 32) : Prop :=
  ((k0_dev1 d0 v10) < nD) ∧
  ((k0_dev4 d0 v10) < nD) ∧
  ((k0_dev5 d0 v10) < nD) ∧
  ((k0_dev6 d0 v10) < nD) ∧
  ((k0_dev7 d0 v10) < nD) ∧
  ((k0_dev8 d0 v10) < nD) ∧
  ((k0_dev9 d0 v10) < nD) ∧
  ((k0_dev10 d0 v10) < nD) ∧
  ((k0_dev11 d0 v10) < nD) ∧
  ((k0_dev12 d0 v10) < nD) ∧
  ((k0_dev13 d0 v10) < nD) ∧
  ((k0_dev14 d0 v10) < nD) ∧
  ((k0_dev15 d0 v10) < nD) ∧
  ((k0_dev16 d0 v10) < nD) ∧
  ((k0_dev17 d0 v10) < nD) ∧
  ((k0_dev18 d0 v10) < nD) ∧
  ((k0_dev19 d0 v10) < nD) ∧
  ((k0_dev20 d0 v10) < nD)
theorem k0_dev1_lt : ∀ (d0 : Dev nD) (v10 : BitVec 32) (k0_hw1 : k0_chk1 d0 v10), (k0_dev1 d0 v10) < nD := fun d0 v10 k0_hw1 => k0_hw1.1
theorem k0_dev4_lt : ∀ (d0 : Dev nD) (v10 : BitVec 32) (k0_hw1 : k0_chk1 d0 v10), (k0_dev4 d0 v10) < nD := fun d0 v10 k0_hw1 => k0_hw1.2.1
theorem k0_dev5_lt : ∀ (d0 : Dev nD) (v10 : BitVec 32) (k0_hw1 : k0_chk1 d0 v10), (k0_dev5 d0 v10) < nD := fun d0 v10 k0_hw1 => k0_hw1.2.2.1
theorem k0_dev6_lt : ∀ (d0 : Dev nD) (v10 : BitVec 32) (k0_hw1 : k0_chk1 d0 v10), (k0_dev6 d0 v10) < nD := fun d0 v10 k0_hw1 => k0_hw1.2.2.2.1
theorem k0_dev7_lt : ∀ (d0 : Dev nD) (v10 : BitVec 32) (k0_hw1 : k0_chk1 d0 v10), (k0_dev7 d0 v10) < nD := fun d0 v10 k0_hw1 => k0_hw1.2.2.2.2.1
theorem k0_dev8_lt : ∀ (d0 : Dev nD) (v10 : BitVec 32) (k0_hw1 : k0_chk1 d0 v10), (k0_dev8 d0 v10) < nD := fun d0 v10 k0_hw1 => k0_hw1.2.2.2.2.2.1
theorem k0_dev9_lt : ∀ (d0 : Dev nD) (v10 : BitVec 32) (k0_hw1 : k0_chk1 d0 v10), (k0_dev9 d0 v10) < nD := fun d0 v10 k0_hw1 => k0_hw1.2.2.2.2.2.2.1
theorem k0_dev10_lt : ∀ (d0 : Dev nD) (v10 : BitVec 32) (k0_hw1 : k0_chk1 d0 v10), (k0_dev10 d0 v10) < nD := fun d0 v10 k0_hw1 => k0_hw1.2.2.2.2.2.2.2.1
theorem k0_dev11_lt : ∀ (d0 : Dev nD) (v10 : BitVec 32) (k0_hw1 : k0_chk1 d0 v10), (k0_dev11 d0 v10) < nD := fun d0 v10 k0_hw1 => k0_hw1.2.2.2.2.2.2.2.2.1
theorem k0_dev12_lt : ∀ (d0 : Dev nD) (v10 : BitVec 32) (k0_hw1 : k0_chk1 d0 v10), (k0_dev12 d0 v10) < nD := fun d0 v10 k0_hw1 => k0_hw1.2.2.2.2.2.2.2.2.2.1
theorem k0_dev13_lt : ∀ (d0 : Dev nD) (v10 : BitVec 32) (k0_hw1 : k0_chk1 d0 v10), (k0_dev13 d0 v10) < nD := fun d0 v10 k0_hw1 => k0_hw1.2.2.2.2.2.2.2.2.2.2.1
theorem k0_dev14_lt : ∀ (d0 : Dev nD) (v10 : BitVec 32) (k0_hw1 : k0_chk1 d0 v10), (k0_dev14 d0 v10) < nD := fun d0 v10 k0_hw1 => k0_hw1.2.2.2.2.2.2.2.2.2.2.2.1
theorem k0_dev15_lt : ∀ (d0 : Dev nD) (v10 : BitVec 32) (k0_hw1 : k0_chk1 d0 v10), (k0_dev15 d0 v10) < nD := fun d0 v10 k0_hw1 => k0_hw1.2.2.2.2.2.2.2.2.2.2.2.2.1
theorem k0_dev16_lt : ∀ (d0 : Dev nD) (v10 : BitVec 32) (k0_hw1 : k0_chk1 d0 v10), (k0_dev16 d0 v10) < nD := fun d0 v10 k0_hw1 => k0_hw1.2.2.2.2.2.2.2.2.2.2.2.2.2.1
theorem k0_dev17_lt : ∀ (d0 : Dev nD) (v10 : BitVec 32) (k0_hw1 : k0_chk1 d0 v10), (k0_dev17 d0 v10) < nD := fun d0 v10 k0_hw1 => k0_hw1.2.2.2.2.2.2.2.2.2.2.2.2.2.2.1
theorem k0_dev18_lt : ∀ (d0 : Dev nD) (v10 : BitVec 32) (k0_hw1 : k0_chk1 d0 v10), (k0_dev18 d0 v10) < nD := fun d0 v10 k0_hw1 => k0_hw1.2.2.2.2.2.2.2.2.2.2.2.2.2.2.2.1
theorem k0_dev19_lt : ∀ (d0 : Dev nD) (v10 : BitVec 32) (k0_hw1 : k0_chk1 d0 v10), (k0_dev19 d0 v10) < nD := fun d0 v10 k0_hw1 => k0_hw1.2.2.2.2.2.2.2.2.2.2.2.2.2.2.2.2.1
theorem k0_dev20_lt : ∀ (d0 : Dev nD) (v10 : BitVec 32) (k0_hw1 : k0_chk1 d0 v10), (k0_dev20 d0 v10) < nD := fun d0 v10 k0_hw1 => k0_hw1.2.2.2.2.2.2.2.2.2.2.2.2.2.2.2.2.2

def k0_dev21 (d0 : Dev nD) : Nat :=
  let c0_i32_276 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_275 : BitVec 32 := 4#32
  let v315 : BitVec 32 := Scalar.muli v2 c4_i32_275
  let v316 : BitVec 32 := Scalar.addi c0_i32_276 v315
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_277 : BitVec 32 := 2#32
  let v317 : BitVec 32 := Scalar.muli v11 c2_i32_277
  let v318 : BitVec 32 := Scalar.addi v316 v317
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_278 : BitVec 32 := 1#32
  let v319 : BitVec 32 := Scalar.muli v8 c1_i32_278
  let v320 : BitVec 32 := Scalar.addi v318 v319
  v320.toNat
def k0_dev22 (d0 : Dev nD) : Nat :=
  let c0_i32_288 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_287 : BitVec 32 := 4#32
  let v327 : BitVec 32 := Scalar.muli v2 c4_i32_287
  let v328 : BitVec 32 := Scalar.addi c0_i32_288 v327
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_289 : BitVec 32 := 2#32
  let v329 : BitVec 32 := Scalar.muli v5 c2_i32_289
  let v330 : BitVec 32 := Scalar.addi v328 v329
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_290 : BitVec 32 := 1#32
  let v331 : BitVec 32 := Scalar.muli v12 c1_i32_290
  let v332 : BitVec 32 := Scalar.addi v330 v331
  v332.toNat
def k0_dev23 (d0 : Dev nD) : Nat :=
  let c0_i32_314 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_313 : BitVec 32 := 4#32
  let v351 : BitVec 32 := Scalar.muli v2 c4_i32_313
  let v352 : BitVec 32 := Scalar.addi c0_i32_314 v351
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_315 : BitVec 32 := 2#32
  let v353 : BitVec 32 := Scalar.muli v11 c2_i32_315
  let v354 : BitVec 32 := Scalar.addi v352 v353
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_316 : BitVec 32 := 1#32
  let v355 : BitVec 32 := Scalar.muli v8 c1_i32_316
  let v356 : BitVec 32 := Scalar.addi v354 v355
  v356.toNat
def k0_dev24 (d0 : Dev nD) : Nat :=
  let c0_i32_326 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_325 : BitVec 32 := 4#32
  let v363 : BitVec 32 := Scalar.muli v2 c4_i32_325
  let v364 : BitVec 32 := Scalar.addi c0_i32_326 v363
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_327 : BitVec 32 := 2#32
  let v365 : BitVec 32 := Scalar.muli v5 c2_i32_327
  let v366 : BitVec 32 := Scalar.addi v364 v365
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_328 : BitVec 32 := 1#32
  let v367 : BitVec 32 := Scalar.muli v12 c1_i32_328
  let v368 : BitVec 32 := Scalar.addi v366 v367
  v368.toNat
def k0_dev25 (d0 : Dev nD) : Nat :=
  let c0_i32_352 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_351 : BitVec 32 := 4#32
  let v387 : BitVec 32 := Scalar.muli v2 c4_i32_351
  let v388 : BitVec 32 := Scalar.addi c0_i32_352 v387
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_353 : BitVec 32 := 2#32
  let v389 : BitVec 32 := Scalar.muli v11 c2_i32_353
  let v390 : BitVec 32 := Scalar.addi v388 v389
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_354 : BitVec 32 := 1#32
  let v391 : BitVec 32 := Scalar.muli v8 c1_i32_354
  let v392 : BitVec 32 := Scalar.addi v390 v391
  v392.toNat
def k0_dev26 (d0 : Dev nD) : Nat :=
  let c0_i32_364 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_363 : BitVec 32 := 4#32
  let v399 : BitVec 32 := Scalar.muli v2 c4_i32_363
  let v400 : BitVec 32 := Scalar.addi c0_i32_364 v399
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_365 : BitVec 32 := 2#32
  let v401 : BitVec 32 := Scalar.muli v5 c2_i32_365
  let v402 : BitVec 32 := Scalar.addi v400 v401
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_366 : BitVec 32 := 1#32
  let v403 : BitVec 32 := Scalar.muli v12 c1_i32_366
  let v404 : BitVec 32 := Scalar.addi v402 v403
  v404.toNat
def k0_dev27 (d0 : Dev nD) : Nat :=
  let c0_i32_390 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_389 : BitVec 32 := 4#32
  let v423 : BitVec 32 := Scalar.muli v2 c4_i32_389
  let v424 : BitVec 32 := Scalar.addi c0_i32_390 v423
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_391 : BitVec 32 := 2#32
  let v425 : BitVec 32 := Scalar.muli v11 c2_i32_391
  let v426 : BitVec 32 := Scalar.addi v424 v425
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_392 : BitVec 32 := 1#32
  let v427 : BitVec 32 := Scalar.muli v8 c1_i32_392
  let v428 : BitVec 32 := Scalar.addi v426 v427
  v428.toNat
def k0_dev28 (d0 : Dev nD) : Nat :=
  let c0_i32_402 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_401 : BitVec 32 := 4#32
  let v435 : BitVec 32 := Scalar.muli v2 c4_i32_401
  let v436 : BitVec 32 := Scalar.addi c0_i32_402 v435
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_403 : BitVec 32 := 2#32
  let v437 : BitVec 32 := Scalar.muli v5 c2_i32_403
  let v438 : BitVec 32 := Scalar.addi v436 v437
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_404 : BitVec 32 := 1#32
  let v439 : BitVec 32 := Scalar.muli v12 c1_i32_404
  let v440 : BitVec 32 := Scalar.addi v438 v439
  v440.toNat
def k0_dev29 (d0 : Dev nD) : Nat :=
  let c0_i32_428 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_427 : BitVec 32 := 4#32
  let v459 : BitVec 32 := Scalar.muli v2 c4_i32_427
  let v460 : BitVec 32 := Scalar.addi c0_i32_428 v459
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_429 : BitVec 32 := 2#32
  let v461 : BitVec 32 := Scalar.muli v11 c2_i32_429
  let v462 : BitVec 32 := Scalar.addi v460 v461
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_430 : BitVec 32 := 1#32
  let v463 : BitVec 32 := Scalar.muli v8 c1_i32_430
  let v464 : BitVec 32 := Scalar.addi v462 v463
  v464.toNat
def k0_dev30 (d0 : Dev nD) : Nat :=
  let c0_i32_440 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_439 : BitVec 32 := 4#32
  let v471 : BitVec 32 := Scalar.muli v2 c4_i32_439
  let v472 : BitVec 32 := Scalar.addi c0_i32_440 v471
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_441 : BitVec 32 := 2#32
  let v473 : BitVec 32 := Scalar.muli v5 c2_i32_441
  let v474 : BitVec 32 := Scalar.addi v472 v473
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_442 : BitVec 32 := 1#32
  let v475 : BitVec 32 := Scalar.muli v12 c1_i32_442
  let v476 : BitVec 32 := Scalar.addi v474 v475
  v476.toNat
def k0_dev31 (d0 : Dev nD) : Nat :=
  let c0_i32_466 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_465 : BitVec 32 := 4#32
  let v495 : BitVec 32 := Scalar.muli v2 c4_i32_465
  let v496 : BitVec 32 := Scalar.addi c0_i32_466 v495
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_467 : BitVec 32 := 2#32
  let v497 : BitVec 32 := Scalar.muli v11 c2_i32_467
  let v498 : BitVec 32 := Scalar.addi v496 v497
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_468 : BitVec 32 := 1#32
  let v499 : BitVec 32 := Scalar.muli v8 c1_i32_468
  let v500 : BitVec 32 := Scalar.addi v498 v499
  v500.toNat
def k0_dev32 (d0 : Dev nD) : Nat :=
  let c0_i32_478 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_477 : BitVec 32 := 4#32
  let v507 : BitVec 32 := Scalar.muli v2 c4_i32_477
  let v508 : BitVec 32 := Scalar.addi c0_i32_478 v507
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_479 : BitVec 32 := 2#32
  let v509 : BitVec 32 := Scalar.muli v5 c2_i32_479
  let v510 : BitVec 32 := Scalar.addi v508 v509
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_480 : BitVec 32 := 1#32
  let v511 : BitVec 32 := Scalar.muli v12 c1_i32_480
  let v512 : BitVec 32 := Scalar.addi v510 v511
  v512.toNat
def k0_dev33 (d0 : Dev nD) : Nat :=
  let c0_i32_504 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_503 : BitVec 32 := 4#32
  let v531 : BitVec 32 := Scalar.muli v2 c4_i32_503
  let v532 : BitVec 32 := Scalar.addi c0_i32_504 v531
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_505 : BitVec 32 := 2#32
  let v533 : BitVec 32 := Scalar.muli v11 c2_i32_505
  let v534 : BitVec 32 := Scalar.addi v532 v533
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_506 : BitVec 32 := 1#32
  let v535 : BitVec 32 := Scalar.muli v8 c1_i32_506
  let v536 : BitVec 32 := Scalar.addi v534 v535
  v536.toNat
def k0_dev34 (d0 : Dev nD) : Nat :=
  let c0_i32_516 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_515 : BitVec 32 := 4#32
  let v543 : BitVec 32 := Scalar.muli v2 c4_i32_515
  let v544 : BitVec 32 := Scalar.addi c0_i32_516 v543
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_517 : BitVec 32 := 2#32
  let v545 : BitVec 32 := Scalar.muli v5 c2_i32_517
  let v546 : BitVec 32 := Scalar.addi v544 v545
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_518 : BitVec 32 := 1#32
  let v547 : BitVec 32 := Scalar.muli v12 c1_i32_518
  let v548 : BitVec 32 := Scalar.addi v546 v547
  v548.toNat
def k0_dev35 (d0 : Dev nD) : Nat :=
  let c0_i32_542 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_541 : BitVec 32 := 4#32
  let v567 : BitVec 32 := Scalar.muli v2 c4_i32_541
  let v568 : BitVec 32 := Scalar.addi c0_i32_542 v567
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_543 : BitVec 32 := 2#32
  let v569 : BitVec 32 := Scalar.muli v11 c2_i32_543
  let v570 : BitVec 32 := Scalar.addi v568 v569
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_544 : BitVec 32 := 1#32
  let v571 : BitVec 32 := Scalar.muli v8 c1_i32_544
  let v572 : BitVec 32 := Scalar.addi v570 v571
  v572.toNat
def k0_dev36 (d0 : Dev nD) : Nat :=
  let c0_i32_554 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_553 : BitVec 32 := 4#32
  let v579 : BitVec 32 := Scalar.muli v2 c4_i32_553
  let v580 : BitVec 32 := Scalar.addi c0_i32_554 v579
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_555 : BitVec 32 := 2#32
  let v581 : BitVec 32 := Scalar.muli v5 c2_i32_555
  let v582 : BitVec 32 := Scalar.addi v580 v581
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_556 : BitVec 32 := 1#32
  let v583 : BitVec 32 := Scalar.muli v12 c1_i32_556
  let v584 : BitVec 32 := Scalar.addi v582 v583
  v584.toNat
def k0_dev37 (d0 : Dev nD) : Nat :=
  let c0_i32_580 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_579 : BitVec 32 := 4#32
  let v603 : BitVec 32 := Scalar.muli v2 c4_i32_579
  let v604 : BitVec 32 := Scalar.addi c0_i32_580 v603
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_581 : BitVec 32 := 2#32
  let v605 : BitVec 32 := Scalar.muli v11 c2_i32_581
  let v606 : BitVec 32 := Scalar.addi v604 v605
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_582 : BitVec 32 := 1#32
  let v607 : BitVec 32 := Scalar.muli v8 c1_i32_582
  let v608 : BitVec 32 := Scalar.addi v606 v607
  v608.toNat
def k0_dev38 (d0 : Dev nD) : Nat :=
  let c0_i32_592 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_591 : BitVec 32 := 4#32
  let v615 : BitVec 32 := Scalar.muli v2 c4_i32_591
  let v616 : BitVec 32 := Scalar.addi c0_i32_592 v615
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_593 : BitVec 32 := 2#32
  let v617 : BitVec 32 := Scalar.muli v5 c2_i32_593
  let v618 : BitVec 32 := Scalar.addi v616 v617
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_594 : BitVec 32 := 1#32
  let v619 : BitVec 32 := Scalar.muli v12 c1_i32_594
  let v620 : BitVec 32 := Scalar.addi v618 v619
  v620.toNat
def k0_dev39 (d0 : Dev nD) : Nat :=
  let c0_i32_618 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_617 : BitVec 32 := 4#32
  let v639 : BitVec 32 := Scalar.muli v2 c4_i32_617
  let v640 : BitVec 32 := Scalar.addi c0_i32_618 v639
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_619 : BitVec 32 := 2#32
  let v641 : BitVec 32 := Scalar.muli v11 c2_i32_619
  let v642 : BitVec 32 := Scalar.addi v640 v641
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_620 : BitVec 32 := 1#32
  let v643 : BitVec 32 := Scalar.muli v8 c1_i32_620
  let v644 : BitVec 32 := Scalar.addi v642 v643
  v644.toNat
def k0_dev40 (d0 : Dev nD) : Nat :=
  let c0_i32_630 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_629 : BitVec 32 := 4#32
  let v651 : BitVec 32 := Scalar.muli v2 c4_i32_629
  let v652 : BitVec 32 := Scalar.addi c0_i32_630 v651
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_631 : BitVec 32 := 2#32
  let v653 : BitVec 32 := Scalar.muli v5 c2_i32_631
  let v654 : BitVec 32 := Scalar.addi v652 v653
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_632 : BitVec 32 := 1#32
  let v655 : BitVec 32 := Scalar.muli v12 c1_i32_632
  let v656 : BitVec 32 := Scalar.addi v654 v655
  v656.toNat
def k0_dev41 (d0 : Dev nD) : Nat :=
  let c0_i32_656 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_655 : BitVec 32 := 4#32
  let v675 : BitVec 32 := Scalar.muli v2 c4_i32_655
  let v676 : BitVec 32 := Scalar.addi c0_i32_656 v675
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_657 : BitVec 32 := 2#32
  let v677 : BitVec 32 := Scalar.muli v11 c2_i32_657
  let v678 : BitVec 32 := Scalar.addi v676 v677
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_658 : BitVec 32 := 1#32
  let v679 : BitVec 32 := Scalar.muli v8 c1_i32_658
  let v680 : BitVec 32 := Scalar.addi v678 v679
  v680.toNat
def k0_dev42 (d0 : Dev nD) : Nat :=
  let c0_i32_668 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_667 : BitVec 32 := 4#32
  let v687 : BitVec 32 := Scalar.muli v2 c4_i32_667
  let v688 : BitVec 32 := Scalar.addi c0_i32_668 v687
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_669 : BitVec 32 := 2#32
  let v689 : BitVec 32 := Scalar.muli v5 c2_i32_669
  let v690 : BitVec 32 := Scalar.addi v688 v689
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_670 : BitVec 32 := 1#32
  let v691 : BitVec 32 := Scalar.muli v12 c1_i32_670
  let v692 : BitVec 32 := Scalar.addi v690 v691
  v692.toNat
def k0_dev43 (d0 : Dev nD) : Nat :=
  let c0_i32_694 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_693 : BitVec 32 := 4#32
  let v711 : BitVec 32 := Scalar.muli v2 c4_i32_693
  let v712 : BitVec 32 := Scalar.addi c0_i32_694 v711
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_695 : BitVec 32 := 2#32
  let v713 : BitVec 32 := Scalar.muli v11 c2_i32_695
  let v714 : BitVec 32 := Scalar.addi v712 v713
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_696 : BitVec 32 := 1#32
  let v715 : BitVec 32 := Scalar.muli v8 c1_i32_696
  let v716 : BitVec 32 := Scalar.addi v714 v715
  v716.toNat
def k0_dev44 (d0 : Dev nD) : Nat :=
  let c0_i32_706 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_705 : BitVec 32 := 4#32
  let v723 : BitVec 32 := Scalar.muli v2 c4_i32_705
  let v724 : BitVec 32 := Scalar.addi c0_i32_706 v723
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_707 : BitVec 32 := 2#32
  let v725 : BitVec 32 := Scalar.muli v5 c2_i32_707
  let v726 : BitVec 32 := Scalar.addi v724 v725
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_708 : BitVec 32 := 1#32
  let v727 : BitVec 32 := Scalar.muli v12 c1_i32_708
  let v728 : BitVec 32 := Scalar.addi v726 v727
  v728.toNat
def k0_dev45 (d0 : Dev nD) : Nat :=
  let c0_i32_732 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_731 : BitVec 32 := 4#32
  let v747 : BitVec 32 := Scalar.muli v2 c4_i32_731
  let v748 : BitVec 32 := Scalar.addi c0_i32_732 v747
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_733 : BitVec 32 := 2#32
  let v749 : BitVec 32 := Scalar.muli v11 c2_i32_733
  let v750 : BitVec 32 := Scalar.addi v748 v749
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_734 : BitVec 32 := 1#32
  let v751 : BitVec 32 := Scalar.muli v8 c1_i32_734
  let v752 : BitVec 32 := Scalar.addi v750 v751
  v752.toNat
def k0_dev46 (d0 : Dev nD) : Nat :=
  let c0_i32_744 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_743 : BitVec 32 := 4#32
  let v759 : BitVec 32 := Scalar.muli v2 c4_i32_743
  let v760 : BitVec 32 := Scalar.addi c0_i32_744 v759
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_745 : BitVec 32 := 2#32
  let v761 : BitVec 32 := Scalar.muli v5 c2_i32_745
  let v762 : BitVec 32 := Scalar.addi v760 v761
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_746 : BitVec 32 := 1#32
  let v763 : BitVec 32 := Scalar.muli v12 c1_i32_746
  let v764 : BitVec 32 := Scalar.addi v762 v763
  v764.toNat
def k0_dev47 (d0 : Dev nD) : Nat :=
  let c0_i32_770 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_769 : BitVec 32 := 4#32
  let v783 : BitVec 32 := Scalar.muli v2 c4_i32_769
  let v784 : BitVec 32 := Scalar.addi c0_i32_770 v783
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_771 : BitVec 32 := 2#32
  let v785 : BitVec 32 := Scalar.muli v11 c2_i32_771
  let v786 : BitVec 32 := Scalar.addi v784 v785
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_772 : BitVec 32 := 1#32
  let v787 : BitVec 32 := Scalar.muli v8 c1_i32_772
  let v788 : BitVec 32 := Scalar.addi v786 v787
  v788.toNat
def k0_dev48 (d0 : Dev nD) : Nat :=
  let c0_i32_782 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_781 : BitVec 32 := 4#32
  let v795 : BitVec 32 := Scalar.muli v2 c4_i32_781
  let v796 : BitVec 32 := Scalar.addi c0_i32_782 v795
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_783 : BitVec 32 := 2#32
  let v797 : BitVec 32 := Scalar.muli v5 c2_i32_783
  let v798 : BitVec 32 := Scalar.addi v796 v797
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_784 : BitVec 32 := 1#32
  let v799 : BitVec 32 := Scalar.muli v12 c1_i32_784
  let v800 : BitVec 32 := Scalar.addi v798 v799
  v800.toNat
def k0_dev49 (d0 : Dev nD) : Nat :=
  let c0_i32_808 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_807 : BitVec 32 := 4#32
  let v819 : BitVec 32 := Scalar.muli v2 c4_i32_807
  let v820 : BitVec 32 := Scalar.addi c0_i32_808 v819
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_809 : BitVec 32 := 2#32
  let v821 : BitVec 32 := Scalar.muli v11 c2_i32_809
  let v822 : BitVec 32 := Scalar.addi v820 v821
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_810 : BitVec 32 := 1#32
  let v823 : BitVec 32 := Scalar.muli v8 c1_i32_810
  let v824 : BitVec 32 := Scalar.addi v822 v823
  v824.toNat
def k0_dev50 (d0 : Dev nD) : Nat :=
  let c0_i32_820 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_819 : BitVec 32 := 4#32
  let v831 : BitVec 32 := Scalar.muli v2 c4_i32_819
  let v832 : BitVec 32 := Scalar.addi c0_i32_820 v831
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_821 : BitVec 32 := 2#32
  let v833 : BitVec 32 := Scalar.muli v5 c2_i32_821
  let v834 : BitVec 32 := Scalar.addi v832 v833
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_822 : BitVec 32 := 1#32
  let v835 : BitVec 32 := Scalar.muli v12 c1_i32_822
  let v836 : BitVec 32 := Scalar.addi v834 v835
  v836.toNat
def k0_dev51 (d0 : Dev nD) : Nat :=
  let c0_i32_846 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_845 : BitVec 32 := 4#32
  let v855 : BitVec 32 := Scalar.muli v2 c4_i32_845
  let v856 : BitVec 32 := Scalar.addi c0_i32_846 v855
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_847 : BitVec 32 := 2#32
  let v857 : BitVec 32 := Scalar.muli v11 c2_i32_847
  let v858 : BitVec 32 := Scalar.addi v856 v857
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_848 : BitVec 32 := 1#32
  let v859 : BitVec 32 := Scalar.muli v8 c1_i32_848
  let v860 : BitVec 32 := Scalar.addi v858 v859
  v860.toNat
def k0_dev52 (d0 : Dev nD) : Nat :=
  let c0_i32_858 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_857 : BitVec 32 := 4#32
  let v867 : BitVec 32 := Scalar.muli v2 c4_i32_857
  let v868 : BitVec 32 := Scalar.addi c0_i32_858 v867
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_859 : BitVec 32 := 2#32
  let v869 : BitVec 32 := Scalar.muli v5 c2_i32_859
  let v870 : BitVec 32 := Scalar.addi v868 v869
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_860 : BitVec 32 := 1#32
  let v871 : BitVec 32 := Scalar.muli v12 c1_i32_860
  let v872 : BitVec 32 := Scalar.addi v870 v871
  v872.toNat
def k0_off4 (d0 : Dev nD) (c0_i32_240 : BitVec 32) : Fin 3 → Nat :=
  let c0_i32_873 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v21 : BitVec 32 := Scalar.muli v5 c2_i32_10
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_9 v8
  let v22 : BitVec 32 := Scalar.addi v21 v20
  let c512_i32_11 : BitVec 32 := 512#32
  let v23 : BitVec 32 := Scalar.muli v22 c512_i32_11
  let v284 : BitVec 32 := Scalar.addi v23 c0_i32_240
  let c0_i32_874 : BitVec 32 := 0#32
  ![0, v284.toNat, 0]
def k0_off5 (d0 : Dev nD) (c0_i32_224 : BitVec 32) : Fin 3 → Nat :=
  let c0_i32_885 : BitVec 32 := 0#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_6 v5
  let c2_i32_7 : BitVec 32 := 2#32
  let v17 : BitVec 32 := Scalar.muli v16 c2_i32_7
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c512_i32_8 : BitVec 32 := 512#32
  let v19 : BitVec 32 := Scalar.muli v18 c512_i32_8
  let v268 : BitVec 32 := Scalar.addi v19 c0_i32_224
  let c0_i32_886 : BitVec 32 := 0#32
  ![0, v268.toNat, 0]
def k0_off6 (d0 : Dev nD) : Fin 3 → Nat :=
  let c0_i32_1126 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v21 : BitVec 32 := Scalar.muli v5 c2_i32_10
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_9 v8
  let v22 : BitVec 32 := Scalar.addi v21 v20
  let c512_i32_11 : BitVec 32 := 512#32
  let v23 : BitVec 32 := Scalar.muli v22 c512_i32_11
  let c176_i32_1117 : BitVec 32 := 176#32
  let v1089 : BitVec 32 := Scalar.addi v23 c176_i32_1117
  let c0_i32_1127 : BitVec 32 := 0#32
  ![0, v1089.toNat, 0]
def k0_dev53 (d0 : Dev nD) : Nat :=
  let c0_i32_1123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1122 : BitVec 32 := 4#32
  let v1090 : BitVec 32 := Scalar.muli v2 c4_i32_1122
  let v1091 : BitVec 32 := Scalar.addi c0_i32_1123 v1090
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_3 v5
  let c2_i32_1124 : BitVec 32 := 2#32
  let v1092 : BitVec 32 := Scalar.muli v11 c2_i32_1124
  let v1093 : BitVec 32 := Scalar.addi v1091 v1092
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1125 : BitVec 32 := 1#32
  let v1094 : BitVec 32 := Scalar.muli v8 c1_i32_1125
  let v1095 : BitVec 32 := Scalar.addi v1093 v1094
  v1095.toNat
def k0_off7 (d0 : Dev nD) : Fin 3 → Nat :=
  let c0_i32_1272 : BitVec 32 := 0#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_6 v5
  let c2_i32_7 : BitVec 32 := 2#32
  let v17 : BitVec 32 := Scalar.muli v16 c2_i32_7
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.addi v17 v8
  let c512_i32_8 : BitVec 32 := 512#32
  let v19 : BitVec 32 := Scalar.muli v18 c512_i32_8
  let c176_i32_1262 : BitVec 32 := 176#32
  let v1212 : BitVec 32 := Scalar.addi v19 c176_i32_1262
  let c168_i32_1263 : BitVec 32 := 168#32
  let v1213 : BitVec 32 := Scalar.addi v1212 c168_i32_1263
  let c0_i32_1273 : BitVec 32 := 0#32
  ![0, v1213.toNat, 0]
def k0_dev54 (d0 : Dev nD) : Nat :=
  let c0_i32_1269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1268 : BitVec 32 := 4#32
  let v1214 : BitVec 32 := Scalar.muli v2 c4_i32_1268
  let v1215 : BitVec 32 := Scalar.addi c0_i32_1269 v1214
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1270 : BitVec 32 := 2#32
  let v1216 : BitVec 32 := Scalar.muli v5 c2_i32_1270
  let v1217 : BitVec 32 := Scalar.addi v1215 v1216
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_1271 : BitVec 32 := 1#32
  let v1218 : BitVec 32 := Scalar.muli v12 c1_i32_1271
  let v1219 : BitVec 32 := Scalar.addi v1217 v1218
  v1219.toNat
def k0_off8 (d0 : Dev nD) : Fin 3 → Nat :=
  let c0_i32_1296 : BitVec 32 := 0#32
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_12 v5
  let c2_i32_14 : BitVec 32 := 2#32
  let v26 : BitVec 32 := Scalar.muli v24 c2_i32_14
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_13 v8
  let v27 : BitVec 32 := Scalar.addi v26 v25
  let c512_i32_15 : BitVec 32 := 512#32
  let v28 : BitVec 32 := Scalar.muli v27 c512_i32_15
  let c176_i32 : BitVec 32 := 176#32
  let v300 : BitVec 32 := Scalar.addi v28 c176_i32
  let c0_i32_1297 : BitVec 32 := 0#32
  ![0, v300.toNat, 0]
def k0_off9 (d0 : Dev nD) : Fin 3 → Nat :=
  let c0_i32_1308 : BitVec 32 := 0#32
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_12 v5
  let c2_i32_14 : BitVec 32 := 2#32
  let v26 : BitVec 32 := Scalar.muli v24 c2_i32_14
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_13 v8
  let v27 : BitVec 32 := Scalar.addi v26 v25
  let c512_i32_15 : BitVec 32 := 512#32
  let v28 : BitVec 32 := Scalar.muli v27 c512_i32_15
  let c176_i32_256 : BitVec 32 := 176#32
  let v301 : BitVec 32 := Scalar.addi v28 c176_i32_256
  let c168_i32 : BitVec 32 := 168#32
  let v302 : BitVec 32 := Scalar.addi v301 c168_i32
  let c0_i32_1309 : BitVec 32 := 0#32
  ![0, v302.toNat, 0]
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x1024 : Shape := ⟨3, ![2, 2048, 1024]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Table.lean ====
/-
# The two tables

A table of the two positions of the mesh's x axis is a permutation of them: the one that exchanges them, or the one that
leaves them where they are.
-/
module

public import Idealize.ShloMosaic.PureOps

@[expose] public section

noncomputable section

namespace Cert.Table

open Idealize.ShloMosaic

/-- The position that `k` goes to: the other one where the table exchanges them (`b`), itself where it does not. -/
def place (b : Bool) (k : Fin 2) : Fin 2 := if b then 1 - k else k

/-- The table as words. -/
def table (b : Bool) : IVec ⟨1, ![2]⟩ 32 := fun i => BitVec.ofNat 32 (place b (i 0)).val

/-- The index of a table at a position. -/
def at1 (k : Fin 2) : (⟨1, ![2]⟩ : Shape).Idx := fun | ⟨0, _⟩ => k

/-- An index of a table is its one coordinate. -/
theorem index_eq (i : (⟨1, ![2]⟩ : Shape).Idx) : i = at1 (i 0) := by
  funext a; have ha : a = 0 := Subsingleton.elim _ _
  subst ha; rfl

/-- A fact about every index of a table is two facts. -/
theorem index_cases {p : (⟨1, ![2]⟩ : Shape).Idx → Prop} (h0 : p (at1 0)) (h1 : p (at1 1)) : ∀ i, p i := by
  intro i; rw [index_eq i]
  have h : ∀ k : Fin 2, p (at1 k) := fun
    | ⟨0, _⟩ => h0
    | ⟨1, _⟩ => h1
  exact h (i 0)

/-- A comparison for equality that says yes. -/
theorem eq_of_cmpi {a b : BitVec 32} (h : IntOp.cmpi .eq a b = 1#1) : a = b := by
  have hb : ∀ p : Bool, BitVec.ofBool p = 1#1 → p = true := by decide
  exact eq_of_beq (hb _ h)

end Cert.Table

end
-- ==== Proof.KernelIdealPlan.lean ====
/-
# The kernel's body as a program over chunks

The printed body is one long line of statements. Here it is written again as what it is: three barrier signals, a
wait, a row of chunk copies, and three loops over the sixteen chunks of a quadrant. `body_eq` says the two are the
same program.
-/
module

public import proofs.«01_k».proof.Proof.Gen.KernelIdeal
public import proofs.«01_k».proof.Proof.Gen.KernelIdeal.Skeleton

@[expose] public section

noncomputable section

namespace Cert.KernelIdealProof

open Cert.KernelIdeal Cert.KernelIdeal.Gen

open Idealize.ShloMosaic Idealize.ShloMosaic.TcCoe
open Idealize.SL Idealize.SL.Sem

variable {F : FTy → Type} [FloatOps F]

/-- The input block, the output block and the staged table of permutation words. -/
abbrev xM : Memref sig .tc .hbm S1x2048x1024 .f32 := Memref.whole main_arg0
abbrev oM : Memref sig .tc .hbm S1x2048x1024 .f32 := Memref.whole main_v1
abbrev tM : Memref sig .tc .smem S2 .i32 := Memref.whole cc0_stg0_0

/-- `n` rows of a block. -/
abbrev Rw (n : ℕ) : Shape := ⟨3, ![1, n, 1024]⟩

/-- The part of `M` of `n` rows at offsets `o`. -/
abbrev cut (M : Memref sig .tc .hbm S1x2048x1024 .f32) (n : ℕ) (o : Fin 3 → ℕ)
    (h : ∀ a, o a + (Rw n).size a ≤ S1x2048x1024.size a) : Memref sig .tc .hbm (Rw n) .f32 :=
  M.slice (Rect.unit (s := S1x2048x1024) o (Rw n).size h) (fun _ => rfl)

theorem inbS (f : Fin 6) (i : Fin 16) : ∀ a, (![f.val, i.val] : Fin 2 → ℕ) a + S1x1.size a ≤ S6x16.size a := by
  revert f i; decide

/-- The semaphore of row `f`, column `i` of a six by sixteen table. -/
abbrev semAt (A : DmaSems sig S6x16) (f : Fin 6) (i : Fin 16) : DmaSem sig :=
  ((A.slice (Rect.unit (s := S6x16) ![f.val, i.val] S1x1.size (inbS f i))).squeeze S_ squeezes_S1x1_S_).sem
abbrev sSem (f : Fin 6) (i : Fin 16) : DmaSem sig := semAt cc0_scratch0 f i
abbrev rSem (f : Fin 6) (i : Fin 16) : DmaSem sig := semAt cc0_scratch1 f i
abbrev barS : Sem sig := (SemArray.scalar (sig.barrier 0 rfl) : Sems sig S_).sem

/-- A kernel program, with nothing to return. -/
abbrev KP (F : FTy → Type) : Type 1 := Prog (TpuEff nD τ sig (Elt F) Λ₀ .tc) PUnit

/-- Start the copy of `src` into `dst` on device `n`, then `k`. -/
abbrev startP {s : Shape} (src dst : Memref sig .tc .hbm s .f32) (n : Dev nD) (sS sR : DmaSem sig) (k : KP F) : KP F :=
  .op (.enqueueDma src (.remote (Dev.tc n) dst (.dma sS)) (.dma sR) (View.wordExact_bits rfl) (View.wordExact_bits rfl)
    ⟨⟨rfl, Or.inl rfl⟩, trivial⟩) fun _ => k

/-- Wait on `sm` for a copy of the size of `dst`, then `k`. -/
abbrev waitP {s : Shape} (sm : DmaSem sig) (src dst : Memref sig .tc .hbm s .f32) (k : KP F) : KP F :=
  .op (.waitDma2 sm src dst (View.wordExact_bits rfl) (View.wordExact_bits rfl)) fun _ => k

/-- Signal the barrier of device `n` once, then `k`. -/
abbrev signalP (n : Dev nD) (k : KP F) : KP F := .op (.semSignal (Dev.tc n) barS (1#32 : BitVec 32).toInt) fun _ => k

/-- A step for every chunk of a list, in order. -/
def overP (f : Fin 16 → KP F → KP F) : List (Fin 16) → KP F → KP F
  | [], k => k
  | i :: l, k => f i (overP f l k)

abbrev all16 : List (Fin 16) := [0, 1, 2, 3, 4, 5, 6, 7, 8, 9, 10, 11, 12, 13, 14, 15]
abbrev lo10 : List (Fin 16) := [0, 1, 2, 3, 4, 5, 6, 7, 8, 9]
abbrev hi5 : List (Fin 16) := [11, 12, 13, 14, 15]

section Steps
variable (c dx dy dz : Dev nD)

/-- The chunks of the device's own quadrant, of its z-quadrant and of its y-quadrant. -/
abbrev own (M : Memref sig .tc .hbm S1x2048x1024 .f32) (i : Fin 16) : Memref sig .tc .hbm (Rw 32) .f32 := cut M 32 (k0_off2 c (BitVec.ofNat 32 (32 * i.val))) (k0_off2_inb c i)
abbrev zq (i : Fin 16) : Memref sig .tc .hbm (Rw 32) .f32 := cut oM 32 (k0_off4 c (BitVec.ofNat 32 (32 * i.val))) (k0_off4_inb c i)
abbrev yq (i : Fin 16) : Memref sig .tc .hbm (Rw 32) .f32 := cut oM 32 (k0_off5 c (BitVec.ofNat 32 (32 * i.val))) (k0_off5_inb c i)
/-- The three pieces of the diagonal quadrant, and the pieces of the other two that are passed on. -/
abbrev dg (M : Memref sig .tc .hbm S1x2048x1024 .f32) : Memref sig .tc .hbm (Rw 176) .f32 := cut M 176 (k0_off3 c) (k0_off3_inb c)
abbrev zp : Memref sig .tc .hbm (Rw 168) .f32 := cut oM 168 (k0_off6 c) (k0_off6_inb c)
abbrev yp : Memref sig .tc .hbm (Rw 168) .f32 := cut oM 168 (k0_off7 c) (k0_off7_inb c)
abbrev dy8 : Memref sig .tc .hbm (Rw 168) .f32 := cut oM 168 (k0_off8 c) (k0_off8_inb c)
abbrev dz9 : Memref sig .tc .hbm (Rw 168) .f32 := cut oM 168 (k0_off9 c) (k0_off9_inb c)

/-- A chunk of the own quadrant goes to the x-neighbour. -/
abbrev sendX (i : Fin 16) (k : KP F) : KP F := startP (own c xM i) (own c oM i) dx (sSem 0 i) (rSem 0 i) k
/-- A chunk of the own quadrant comes in and goes on to both others of the plane. -/
abbrev passOn (i : Fin 16) (k : KP F) : KP F :=
  waitP (rSem 0 i) (own c xM i) (own c oM i)
    (startP (own c oM i) (own c oM i) dy (sSem 2 i) (rSem 2 i)
      (startP (own c oM i) (own c oM i) dz (sSem 3 i) (rSem 3 i) k))
/-- A chunk of the z-quadrant, of the y-quadrant, comes in. -/
abbrev recvZ (i : Fin 16) (k : KP F) : KP F := waitP (rSem 3 i) (zq c i) (zq c i) k
abbrev recvY (i : Fin 16) (k : KP F) : KP F := waitP (rSem 2 i) (yq c i) (yq c i) k
abbrev recvZY (i : Fin 16) (k : KP F) : KP F := recvZ c i (recvY c i k)
/-- The sends of row 0 (from the input), and of rows 2 and 3, have left. -/
abbrev leftX (i : Fin 16) (k : KP F) : KP F := waitP (sSem 0 i) (own c oM i) (own c xM i) k
abbrev left (f : Fin 6) (i : Fin 16) (k : KP F) : KP F := waitP (sSem f i) (own c oM i) (own c oM i) k

/-- The last waits: the pieces of the diagonal quadrant, then all sends. -/
def drainP : KP F :=
  waitP (rSem 1 0) (dg c oM) (dg c oM) <| waitP (rSem 4 0) (dy8 c) (dy8 c) <| waitP (rSem 5 0) (dz9 c) (dz9 c) <|
  overP (leftX c) all16 <| overP (left c 2) all16 <| overP (left c 3) all16 <|
  waitP (sSem 1 0) (dg c oM) (dg c xM) <| waitP (sSem 4 0) (zp c) (zp c) <| waitP (sSem 5 0) (yp c) (yp c) (.ret ⟨⟩)

/-- The chunks of the two other quadrants coming in, a piece of each passed on for the diagonal quadrant. -/
def turnP : KP F :=
  overP (recvZY c) lo10 <| recvZ c 10 <| startP (zp c) (zp c) dy (sSem 4 0) (rSem 4 0) <| recvY c 10 <|
  overP (recvZY c) hi5 <| startP (yp c) (yp c) dz (sSem 5 0) (rSem 5 0) (drainP c)

/-- All copies and waits past the barrier. -/
def copiesP : KP F :=
  overP (sendX c dx) all16 <| startP (dg c xM) (dg c oM) dx (sSem 1 0) (rSem 1 0) <|
  overP (passOn c dy dz) all16 (turnP c dy dz)

/-- The kernel's body past the reading of its word of the table, its neighbours `dx`, `dy`, `dz` given. -/
def restP : KP F :=
  signalP dx <| signalP dy <| signalP dz <| .op (.semWait barS (3#32 : BitVec 32).toInt) fun _ => copiesP c dx dy dz

end Steps

/-- The rectangle of the table's word a device reads. -/
abbrev r1 (c : Dev nD) : Rect S2 := Rect.unit (s := S2) (k0_off1 c) S1.size (k0_off1_inb c)

set_option maxRecDepth 65536 in
set_option maxHeartbeats 40000000 in
/-- The printed body is this program. -/
theorem body_eq :
    cc0_body (F := F) tM (Memref.isWhole_whole _) xM (Memref.isWhole_whole _) oM (Memref.isWhole_whole _) cc0_scratch0 cc0_scratch1
      = (do
          let c : Dev nD ← Prog.lift .deviceId
          let w : Elt F .i32 ← smemLoad tM (r1 c) numel1_S1 rfl
          have hw : k0_chk1 c w := (← Prog.lift (TpuEff.assume (k0_chk1 c w) (k0_chk1.dec c w))).down
          restP c ⟨k0_dev4 c w, k0_dev4_lt c w hw⟩ ⟨k0_dev2 c, k0_dev2_lt c⟩ ⟨k0_dev3 c, k0_dev3_lt c⟩) := rfl

end Cert.KernelIdealProof

end
-- ==== Proof.KernelIdealRows.lean ====
/-
# Devices, transfers and rows

Who sends which rows to whom, and the laws of holding a run of rows of a block: two neighbouring runs are one run, a
quadrant is its sixteen chunks, a block its four quadrants.
-/
module

public import proofs.«01_k».proof.Proof.KernelIdealPlan
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Devices -/

/-- Where a device's block goes along x: a pairing of the devices that keeps the place in the y-z plane. -/
structure Swap where
  tgt : Dev nD → Dev nD
  inv : ∀ c, tgt (tgt c) = c
  quad : ∀ c, (tgt c).val % 4 = c.val % 4

/-- The neighbours along y and along z. -/
def yn (c : Dev nD) : Dev nD := ⟨k0_dev2 c, k0_dev2_lt c⟩
def zn (c : Dev nD) : Dev nD := ⟨k0_dev3 c, k0_dev3_lt c⟩
theorem yn_yn (c : Dev nD) : yn (yn c) = c := by revert c; decide +kernel
theorem zn_zn (c : Dev nD) : zn (zn c) = c := by revert c; decide +kernel
theorem yn_div (c : Dev nD) : (yn c).val / 4 = c.val / 4 := by revert c; decide +kernel
theorem zn_div (c : Dev nD) : (zn c).val / 4 = c.val / 4 := by revert c; decide +kernel
theorem diag_yz (c : Dev nD) : (yn (zn c)).val % 4 = 3 - c.val % 4 := by revert c; decide +kernel
theorem diag_zy (c : Dev nD) : (zn (yn c)).val % 4 = 3 - c.val % 4 := by revert c; decide +kernel
theorem yn_ne_diag (c : Dev nD) : (yn c).val % 4 ≠ 3 - c.val % 4 := by revert c; decide +kernel
theorem zn_ne_diag (c : Dev nD) : (zn c).val % 4 ≠ 3 - c.val % 4 := by revert c; decide +kernel
theorem yn_ne_own (c : Dev nD) : (yn c).val % 4 ≠ c.val % 4 := by revert c; decide +kernel
theorem zn_ne_own (c : Dev nD) : (zn c).val % 4 ≠ c.val % 4 := by revert c; decide +kernel
theorem own_ne_diag (c : Dev nD) : c.val % 4 ≠ 3 - c.val % 4 := by omega

variable (σ : Swap)

/-- The three neighbours by direction: x, y, z. -/
def nbr : Fin 3 → Dev nD → Dev nD
  | 0 => σ.tgt
  | 1 => yn
  | 2 => zn
theorem nbr_nbr (d : Fin 3) (c : Dev nD) : nbr σ d (nbr σ d c) = c :=
  match d with
  | 0 => σ.inv c
  | 1 => yn_yn c
  | 2 => zn_zn c
def nbrEquiv (d : Fin 3) : Dev nD ≃ Dev nD := ⟨nbr σ d, nbr σ d, nbr_nbr σ d, nbr_nbr σ d⟩

/-! ## Transfers -/

/-- A transfer by its place in the semaphore tables: 0 own chunks along x, 1 the diagonal piece along x, 2 and 3 own
    chunks along y and z, 4 and 5 the diagonal pieces along y and z. Rows 1, 4, 5 use their first column only. -/
abbrev T : Type := Fin 6 × Fin 16

def dir : Fin 6 → Fin 3
  | 0 => 0 | 1 => 0 | 2 => 1 | 3 => 2 | 4 => 1 | 5 => 2
def len : Fin 6 → ℕ
  | 0 => 32 | 1 => 176 | 2 => 32 | 3 => 32 | 4 => 168 | 5 => 168
def used (t : T) : Bool :=
  match t.1 with
  | 0 => true | 1 => t.2 == 0 | 2 => true | 3 => true | 4 => t.2 == 0 | 5 => t.2 == 0
/-- The other end of a transfer: where `c` sends it, and whom `c` gets it from. -/
def peer (t : T) (c : Dev nD) : Dev nD := nbr σ (dir t.1) c
theorem peer_peer (t : T) (c : Dev nD) : peer σ t (peer σ t c) = c := nbr_nbr σ _ c

/-- The first row of a transfer out of device `c`, in its own block and in the target's alike. -/
def row (t : T) (c : Dev nD) : ℕ :=
  match t.1 with
  | 0 => 512 * (c.val % 4) + 32 * t.2.val
  | 1 => 512 * (3 - c.val % 4)
  | 2 => 512 * (c.val % 4) + 32 * t.2.val
  | 3 => 512 * (c.val % 4) + 32 * t.2.val
  | 4 => 512 * ((zn c).val % 4) + 176
  | 5 => 512 * ((yn c).val % 4) + 344
/-- The first row of a transfer into device `c`. -/
def land (t : T) (c : Dev nD) : ℕ := row t (peer σ t c)

theorem land_x (i : Fin 16) (c : Dev nD) : land σ (0, i) c = 512 * (c.val % 4) + 32 * i.val := by
  show 512 * ((σ.tgt c).val % 4) + 32 * i.val = _; rw [σ.quad]
theorem land_xe (c : Dev nD) : land σ (1, 0) c = 512 * (3 - c.val % 4) := by
  show 512 * (3 - (σ.tgt c).val % 4) = _; rw [σ.quad]
theorem land_y (i : Fin 16) (c : Dev nD) : land σ (2, i) c = 512 * ((yn c).val % 4) + 32 * i.val := rfl
theorem land_z (i : Fin 16) (c : Dev nD) : land σ (3, i) c = 512 * ((zn c).val % 4) + 32 * i.val := rfl
theorem land_yd (c : Dev nD) : land σ (4, 0) c = 512 * (3 - c.val % 4) + 176 := by
  show 512 * ((zn (yn c)).val % 4) + 176 = _; rw [diag_zy]
theorem land_zd (c : Dev nD) : land σ (5, 0) c = 512 * (3 - c.val % 4) + 344 := by
  show 512 * ((yn (zn c)).val % 4) + 344 = _; rw [diag_yz]

/-- The offsets the body computes are these rows. -/
theorem off2_row (c : Dev nD) (i : Fin 16) : k0_off2 c (BitVec.ofNat 32 (32 * i.val)) = ![0, 512 * (c.val % 4) + 32 * i.val, 0] := by
  rw [k0_off2_eq]; congr 2; omega
theorem off3_row (c : Dev nD) : k0_off3 c = ![0, row (1, 0) c, 0] := by revert c; decide +kernel
theorem off6_row (c : Dev nD) : k0_off6 c = ![0, row (4, 0) c, 0] := by revert c; decide +kernel
theorem off7_row (c : Dev nD) : k0_off7 c = ![0, row (5, 0) c, 0] := by revert c; decide +kernel

/-! ## Runs of rows -/

section Runs
variable {ℓ : Loc nD τ sig} (r : Idx ℓ → ℕ)

/-- The elements of a buffer in rows `a` up to `a + n`, `r` telling an element's row. -/
def runOf (a n : ℕ) : Finset (Idx ℓ) := Finset.univ.filter fun i => a ≤ r i ∧ r i < a + n

theorem mem_runOf {a n : ℕ} {i : Idx ℓ} : i ∈ runOf r a n ↔ a ≤ r i ∧ r i < a + n := by
  unfold runOf; rw [Finset.mem_filter]; exact ⟨fun h => h.2, fun h => ⟨Finset.mem_univ _, h⟩⟩

local notation "𝕄'" => MT nD τ sig Unit (Elt F) ℕ (UR sig nD τ × URounds (GSem nD τ sig) (Fin 3)) ℕ

/-- Holding those rows at share `q`. -/
def run (q : PosShare TreeShare) (a n : ℕ) (f : Buf (Elt F) ℓ) : sProp 𝕄' := ℓ ↦[runOf r a n]{q} f

instance run_storable (q : PosShare TreeShare) (a n : ℕ) (f : Buf (Elt F) ℓ) : BI.Storable (upEmb : UEmb _ 𝕄') (run r q a n f) := by
  unfold run; infer_instance

variable (q : PosShare TreeShare) (f g : Buf (Elt F) ℓ)

omit [FloatOps F] in
theorem run_add (a n k : ℕ) : run r q a (n + k) f = iprop(run r q a n f ∗ run r q (a + n) k f) := by
  have hu : runOf r a (n + k) = runOf r a n ∪ runOf r (a + n) k := by
    ext i; rw [Finset.mem_union, mem_runOf, mem_runOf, mem_runOf]; omega
  have hd : Disjoint (runOf r a n) (runOf r (a + n) k) := Finset.disjoint_left.mpr fun i h h' => by
    rw [mem_runOf] at h h'; omega
  unfold run; rw [hu]
  have h : (ℓ ↦[runOf r a n ∪ runOf r (a + n) k]{q} f : sProp 𝕄') ⊣⊢ iprop((ℓ ↦[runOf r a n]{q} f) ∗ ℓ ↦[runOf r (a + n) k]{q} f) := pointsTo_union hd
  exact BI.equiv_iff.mp ⟨h.1, h.2⟩

omit [FloatOps F] in
theorem run_zero (a : ℕ) : run r q a 0 f = iprop(emp) := by
  have h : runOf r a 0 = ∅ := by ext i; rw [mem_runOf]; constructor <;> intro h <;> [omega; cases h]
  unfold run; rw [h, pointsTo_empty]

omit [FloatOps F] in
theorem run_congr (a n : ℕ) (h : ∀ i, a ≤ r i → r i < a + n → f i = g i) : run r q a n f = run r q a n g := by
  unfold run; exact pointsTo_congr fun i hi => h i ((mem_runOf r).mp hi).1 ((mem_runOf r).mp hi).2

omit [FloatOps F] in
theorem run_halves (a n : ℕ) : run r q a n f = iprop(run r q.left a n f ∗ run r q.right a n f) := by
  unfold run
  have h : (ℓ ↦[runOf r a n]{q} f : sProp 𝕄') ⊣⊢ iprop((ℓ ↦[runOf r a n]{q.left} f) ∗ ℓ ↦[runOf r a n]{q.right} f) :=
    pointsTo_share (PosShare.mem_left_op_right q)
  exact BI.equiv_iff.mp ⟨h.1, h.2⟩

omit [FloatOps F] in
theorem run_all (h : ∀ i, r i < 2048) : run r q 0 2048 f = (ℓ ↦{q} f : sProp 𝕄') := by
  have hs : runOf r 0 2048 = Finset.univ := by
    ext i; rw [mem_runOf]; have := h i; constructor <;> intro _ <;> [exact Finset.mem_univ _; omega]
  unfold run; rw [hs]

/-! ### A conjunction along a list of chunks -/

end Runs

section Each
variable {M : Type} [URA M]

/-- One proposition for each chunk of a list. -/
def each (Φ : Fin 16 → sProp M) : List (Fin 16) → sProp M
  | [] => iprop(emp)
  | i :: l => iprop(Φ i ∗ each Φ l)

theorem each_cons (Φ : Fin 16 → sProp M) (i : Fin 16) (l : List (Fin 16)) : each Φ (i :: l) = iprop(Φ i ∗ each Φ l) := rfl

theorem each_sep (Φ Ψ : Fin 16 → sProp M) : ∀ l, each (fun i => iprop(Φ i ∗ Ψ i)) l ⊣⊢ iprop(each Φ l ∗ each Ψ l)
  | [] => by
    constructor
    · unfold each; iintro -; isplitr <;> iempintro
    · unfold each; iintro -; iempintro
  | i :: l => by
    have ih := each_sep Φ Ψ l
    constructor
    · unfold each
      iintro ⟨⟨H1, H2⟩, H⟩
      ihave H' := ih.1 $$ H
      icases H' with ⟨H3, H4⟩
      isplitl [H1 H3]
      · isplitl [H1] <;> iassumption
      isplitl [H2] <;> iassumption
    · unfold each
      iintro ⟨⟨H1, H3⟩, H2, H4⟩
      isplitl [H1 H2]
      · isplitl [H1] <;> iassumption
      iapply ih.2
      isplitl [H3] <;> iassumption

theorem each_sep_eq (Φ Ψ : Fin 16 → sProp M) (l : List (Fin 16)) :
    each (fun i => iprop(Φ i ∗ Ψ i)) l = iprop(each Φ l ∗ each Ψ l) :=
  BI.equiv_iff.mp ⟨(each_sep Φ Ψ l).1, (each_sep Φ Ψ l).2⟩

theorem each_append (Φ : Fin 16 → sProp M) : ∀ l l', each Φ (l ++ l') ⊣⊢ iprop(each Φ l ∗ each Φ l')
  | [], l' => by
    constructor
    · show each Φ l' ⊢ iprop(emp ∗ each Φ l'); iintro H; isplitr; · iempintro
      iexact H
    · show iprop(emp ∗ each Φ l') ⊢ each Φ l'; iintro ⟨-, H⟩; iexact H
  | i :: l, l' => by
    have ih := each_append Φ l l'
    constructor
    · show iprop(Φ i ∗ each Φ (l ++ l')) ⊢ iprop((Φ i ∗ each Φ l) ∗ each Φ l')
      iintro ⟨H1, H⟩
      ihave H' := ih.1 $$ H
      icases H' with ⟨H2, H3⟩
      isplitl [H1 H2]
      · isplitl [H1] <;> iassumption
      iexact H3
    · show iprop((Φ i ∗ each Φ l) ∗ each Φ l') ⊢ iprop(Φ i ∗ each Φ (l ++ l'))
      iintro ⟨⟨H1, H2⟩, H3⟩
      isplitl [H1]; · iexact H1
      iapply ih.2
      isplitl [H2] <;> iassumption

theorem each_mono {Φ Ψ : Fin 16 → sProp M} (h : ∀ i, Φ i ⊢ Ψ i) : ∀ l, each Φ l ⊢ each Ψ l
  | [] => by unfold each; iintro -; iempintro
  | i :: l => by
    have ih := each_mono h l
    unfold each
    iintro ⟨H1, H2⟩
    isplitl [H1]
    · iapply (h i); iexact H1
    · iapply ih; iexact H2

theorem each_congr {Φ Ψ : Fin 16 → sProp M} (h : ∀ i, Φ i = Ψ i) (l : List (Fin 16)) : each Φ l = each Ψ l := by
  rw [show Φ = Ψ from funext h]

theorem bigSep_toFinset (Φ : Fin 16 → sProp M) : ∀ l : List (Fin 16), l.Nodup → bigSep l.toFinset Φ = each Φ l
  | [], _ => by rw [List.toFinset_nil, bigSep_empty]; rfl
  | i :: l, h => by
    rw [List.toFinset_cons, bigSep_insert (fun hi => (List.nodup_cons.mp h).1 (List.mem_toFinset.mp hi)),
      bigSep_toFinset Φ l (List.nodup_cons.mp h).2]
    rfl

theorem bigSep_all16 (Φ : Fin 16 → sProp M) : bigSep Finset.univ Φ = each Φ all16 := by
  rw [← bigSep_toFinset Φ all16 (by decide)]; exact congrArg (bigSep · Φ) (by decide)

end Each

section Runs
variable {ℓ : Loc nD τ sig} (r : Idx ℓ → ℕ) (q : PosShare TreeShare) (f : Buf (Elt F) ℓ)

omit [FloatOps F] in
/-- Consecutive chunks from chunk `k` on are one run. -/
theorem run_chunks (a : ℕ) : ∀ (l : List (Fin 16)) (k : ℕ), l.map Fin.val = List.range' k l.length →
    each (fun i => run r q (a + 32 * i.val) 32 f) l = run r q (a + 32 * k) (32 * l.length) f
  | [], k, _ => (run_zero r q f _).symm
  | i :: l, k, h => by
    rw [List.map_cons, List.length_cons, List.range'_succ, List.cons.injEq] at h
    rw [List.length_cons, show 32 * (l.length + 1) = 32 + 32 * l.length by omega, run_add]
    have ih := run_chunks a l (k + 1) h.2
    rw [show a + 32 * k + 32 = a + 32 * (k + 1) by omega, ← ih, ← h.1]
    rfl

omit [FloatOps F] in
theorem run_quadrant (a : ℕ) : each (fun i => run r q (a + 32 * i.val) 32 f) all16 = run r q a 512 f :=
  run_chunks r q f a all16 0 (by decide)

omit [FloatOps F] in
/-- A quadrant is the piece of 176 rows and the two of 168. -/
theorem run_thirds (a : ℕ) : run r q a 512 f = iprop(run r q a 176 f ∗ run r q (a + 176) 168 f ∗ run r q (a + 344) 168 f) := by
  rw [show (512 : ℕ) = 176 + (168 + 168) by rfl, run_add, run_add, show a + 176 + 168 = a + 344 by omega]

omit [FloatOps F] in
/-- A whole block is its four quadrants, told from any device's point of view. -/
theorem run_block (c : Dev nD) :
    run r q 0 2048 f = iprop(run r q (512 * (c.val % 4)) 512 f ∗ run r q (512 * ((yn c).val % 4)) 512 f
      ∗ run r q (512 * ((zn c).val % 4)) 512 f ∗ run r q (512 * (3 - c.val % 4)) 512 f) := by
  have h4 : ∀ Φ : Fin 4 → sProp (MT nD τ sig Unit (Elt F) ℕ (UR sig nD τ × URounds (GSem nD τ sig) (Fin 3)) ℕ),
      bigSep Finset.univ Φ = iprop(Φ 0 ∗ Φ 1 ∗ Φ 2 ∗ Φ 3) := fun Φ =>
    (bigSep_univ_eq_bigSepL [0, 1, 2, 3] (by decide) (by decide) Φ).trans (by
      rw [bigSepL_cons_cons, bigSepL_cons_cons, bigSepL_cons_cons, bigSepL_singleton]; rfl)
  have hs : run r q 0 2048 f = bigSep Finset.univ fun j : Fin 4 => run r q (512 * j.val) 512 f := by
    rw [h4, show (2048 : ℕ) = 512 + (512 + (512 + 512)) by rfl, run_add, run_add, run_add]
    rfl
  let e : Fin 4 → Fin 4 := fun j => match j with
    | 0 => ⟨c.val % 4, Nat.mod_lt _ (by decide)⟩
    | 1 => ⟨(yn c).val % 4, Nat.mod_lt _ (by decide)⟩
    | 2 => ⟨(zn c).val % 4, Nat.mod_lt _ (by decide)⟩
    | 3 => ⟨3 - c.val % 4, by omega⟩
  have he : Function.Bijective e := by
    rw [Fintype.bijective_iff_injective_and_card]
    refine ⟨?_, rfl⟩
    revert c; decide +kernel
  rw [hs, bigSep_univ_equiv (Equiv.ofBijective e he), h4]
  rfl

end Runs

end Cert.KernelIdealProof

end
-- ==== Proof.KernelIdealSched.lean ====
/-
# The schedule of the exchange

Every semaphore of the tables is a cell of one round with one duty, a transfer leaving or landing; the barrier is a cell
of one round with three duties, a neighbour's signal each, which hands over the rows of the neighbour's output block that
the signalled device will write. A landing hands over the rows with their final contents.
-/
module

public import proofs.«01_k».proof.Proof.KernelIdealRows

@[expose] public section

noncomputable section

namespace Cert.KernelIdealProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (σ : Swap) (m : (ℓ : Loc nD τ sig) → Buf (Elt F) ℓ)

/-! ## Cells -/

/-- The semaphore of a transfer: where it leaves (`false`), where it lands (`true`). -/
def dsem : Bool → T → DmaSem sig
  | false, t => sSem t.1 t.2
  | true, t => rSem t.1 t.2

/-- The cells of one device: the barrier and the two tables. -/
abbrev Kd : Type := Option (Bool × T)
def csem : Kd → SemLoc sig
  | none => .reg barS
  | some p => .dma (dsem p.1 p.2)

abbrev barCell (c : Dev nD) : GSem nD τ sig := ((c : Thread nD τ), .reg barS)
abbrev cell (b : Bool) (t : T) (c : Dev nD) : GSem nD τ sig := ((c : Thread nD τ), .dma (dsem b t))
abbrev kcell (p : Dev nD × Kd) : GSem nD τ sig := ((p.1 : Thread nD τ), csem p.2)

/-- Which transfer's semaphore it is, if any. -/
def tOf (k : ℕ) : T := (Fin.ofNat 6 (k / 16), Fin.ofNat 16 k)
def role (q : DmaSem sig) : Option (Bool × T) :=
  if q.val = 0 then none else if q.val < 97 then some (false, tOf (q.val - 1)) else some (true, tOf (q.val - 97))

theorem role_dsem (b : Bool) (t : T) : role (dsem b t) = some (b, t) := by
  obtain ⟨f, i⟩ := t
  revert b f i; decide +kernel

theorem dsem_inj {b b' : Bool} {t t' : T} (h : dsem b t = dsem b' t') : b = b' ∧ t = t' := by
  have h' := congrArg role h
  rw [role_dsem, role_dsem, Option.some.injEq, Prod.mk.injEq] at h'
  exact h'

theorem csem_inj : Function.Injective csem := by
  intro k k' h
  match k, k', h with
  | none, none, _ => rfl
  | none, some _, h => cases h
  | some _, none, h => cases h
  | some p, some p', h =>
    have h1 : dsem p.1 p.2 = dsem p'.1 p'.2 := SemLoc.dma.inj h
    have h2 := dsem_inj h1
    exact congrArg some (Prod.ext h2.1 h2.2)

theorem kcell_injective : Function.Injective (kcell : Dev nD × Kd → GSem nD τ sig) := by
  rintro ⟨c, k⟩ ⟨c', k'⟩ h
  have h1 : c = c' := congrArg (fun g : GSem nD τ sig => g.1.1) h
  subst h1
  have h2 : csem k = csem k' := congrArg Prod.snd h
  rw [csem_inj h2]

/-! ## Contents -/

/-- The device of `c`'s plane whose partner's block a row of `c`'s output holds in the end: the device of the row's
    quadrant, but `c` itself for the piece of the diagonal quadrant that comes straight along x. -/
def home (c : Dev nD) (r : ℕ) : Dev nD :=
  if 512 * (3 - c.val % 4) ≤ r ∧ r < 512 * (3 - c.val % 4) + 176 then c
  else if h : 4 * (c.val / 4) + r / 512 < nD then ⟨4 * (c.val / 4) + r / 512, h⟩ else c

theorem home_self (c : Dev nD) (r : ℕ) (h : 512 * (3 - c.val % 4) ≤ r) (h' : r < 512 * (3 - c.val % 4) + 176) : home c r = c :=
  if_pos ⟨h, h'⟩

theorem home_eq (c d : Dev nD) (r : ℕ) (hd : d.val / 4 = c.val / 4) (h : 512 * (d.val % 4) ≤ r) (h' : r < 512 * (d.val % 4) + 512)
    (hn : r < 512 * (3 - c.val % 4) ∨ 512 * (3 - c.val % 4) + 176 ≤ r) : home c r = d := by
  have hr : r / 512 = d.val % 4 := by omega
  have hv : 4 * (c.val / 4) + r / 512 = d.val := by rw [hr, ← hd]; omega
  unfold home
  rw [if_neg (by omega), dif_pos (by rw [hv]; exact d.isLt)]
  exact Fin.ext hv

/-- The row of an element of an input or an output block. -/
abbrev rX (c : Dev nD) : Idx ((c : Thread nD τ).loc main_arg0) → ℕ := fun i => (i (1 : Fin 3)).val
abbrev rO (c : Dev nD) : Idx ((c : Thread nD τ).loc main_v1) → ℕ := fun i => (i (1 : Fin 3)).val

/-- Device `c`'s input block, and what its output block holds in the end. -/
abbrev xBlk (c : Dev nD) : Buf (Elt F) ((c : Thread nD τ).loc main_arg0) := m ((c : Thread nD τ).loc main_arg0)
def fin (c : Dev nD) : Buf (Elt F) ((c : Thread nD τ).loc main_v1) := fun i => xBlk m (σ.tgt (home c (rO c i))) i

abbrev xRun (c : Dev nD) (a n : ℕ) : sProp 𝕄 := run (rX c) fullShare a n (xBlk m c)
abbrev oRun (q : PosShare TreeShare) (c : Dev nD) (a n : ℕ) (f : Buf (Elt F) ((c : Thread nD τ).loc main_v1)) : sProp 𝕄 := run (rO c) q a n f

/-- What lands along x: the sender's input rows are the target's final rows. -/
theorem carry_x (c : Dev nD) (f : Fin 6) (i : Fin 16) (hf : f = 0 ∨ f = 1) (j : Idx ((σ.tgt c : Thread nD τ).loc main_v1))
    (h : row (f, i) c ≤ rO _ j) (h' : rO _ j < row (f, i) c + len f) : fin σ m (σ.tgt c) j = xBlk m c j := by
  have hh : home (σ.tgt c) (rO _ j) = σ.tgt c := by
    rcases hf with rfl | rfl
    · have h1 : 512 * (c.val % 4) + 32 * i.val ≤ rO _ j := h
      have h2 : rO _ j < 512 * (c.val % 4) + 32 * i.val + 32 := h'
      have := i.isLt
      have hq := σ.quad c
      exact home_eq _ _ _ rfl (by omega) (by omega) (by omega)
    · have h1 : 512 * (3 - c.val % 4) ≤ rO _ j := h
      have h2 : rO _ j < 512 * (3 - c.val % 4) + 176 := h'
      have hq := σ.quad c
      exact home_self _ _ (by omega) (by omega)
  unfold fin
  rw [hh, σ.inv]

theorem home_yz (c : Dev nD) (t : T) (hf : t.1 ≠ 0 ∧ t.1 ≠ 1) (r : ℕ) (h : row t c ≤ r) (h' : r < row t c + len t.1) :
    home (peer σ t c) r = home c r := by
  have hy := yn_div c
  have hz := zn_div c
  have h1 := diag_yz c
  have h2 := diag_zy c
  have h3 : 3 - (yn c).val % 4 = (zn c).val % 4 := by rw [← diag_zy (yn c), yn_yn]
  have h4 : 3 - (zn c).val % 4 = (yn c).val % 4 := by rw [← diag_yz (zn c), zn_zn]
  have h5 := yn_ne_diag c
  have h6 := zn_ne_diag c
  have h7 := yn_ne_own c
  have h8 := zn_ne_own c
  obtain ⟨f, i⟩ := t
  have hi := i.isLt
  match f, hf, h, h' with
  | 0, hf, _, _ => exact absurd rfl hf.1
  | 1, hf, _, _ => exact absurd rfl hf.2
  | 2, _, h, h' =>
    change 512 * (c.val % 4) + 32 * i.val ≤ r at h
    change r < 512 * (c.val % 4) + 32 * i.val + 32 at h'
    exact (home_eq (yn c) c _ hy.symm (by omega) (by omega) (by omega)).trans
      (home_eq c c _ rfl (by omega) (by omega) (by omega)).symm
  | 3, _, h, h' =>
    change 512 * (c.val % 4) + 32 * i.val ≤ r at h
    change r < 512 * (c.val % 4) + 32 * i.val + 32 at h'
    exact (home_eq (zn c) c _ hz.symm (by omega) (by omega) (by omega)).trans
      (home_eq c c _ rfl (by omega) (by omega) (by omega)).symm
  | 4, _, h, h' =>
    change 512 * ((zn c).val % 4) + 176 ≤ r at h
    change r < 512 * ((zn c).val % 4) + 176 + 168 at h'
    exact (home_eq (yn c) (zn c) _ (hz.trans hy.symm) (by omega) (by omega) (by omega)).trans
      (home_eq c (zn c) _ hz (by omega) (by omega) (by omega)).symm
  | 5, _, h, h' =>
    change 512 * ((yn c).val % 4) + 344 ≤ r at h
    change r < 512 * ((yn c).val % 4) + 344 + 168 at h'
    exact (home_eq (zn c) (yn c) _ (hy.trans hz.symm) (by omega) (by omega) (by omega)).trans
      (home_eq c (yn c) _ hy (by omega) (by omega) (by omega)).symm

/-- What lands along y and z: both ends hold the same final rows. -/
theorem carry_yz (c : Dev nD) (t : T) (hf : t.1 ≠ 0 ∧ t.1 ≠ 1) (j : Idx ((peer σ t c : Thread nD τ).loc main_v1))
    (h : row t c ≤ rO _ j) (h' : rO _ j < row t c + len t.1) : fin σ m (peer σ t c) j = fin σ m c j := by
  have hh : home (peer σ t c) (rO _ j) = home c (rO c j) := home_yz σ c t hf _ h h'
  unfold fin
  rw [hh]

/-! ## The schedule -/

/-- The credit of `n` rows. -/
def Nn (n : ℕ) : ℕ := sig.dmaCredit .tc (Kind.tc.table .hbm) (oM).view.buf (Rw n) .f32
theorem Nn_pos (f : Fin 6) : 0 < Nn (len f) := sig.dmaCredit_pos _ _ _ _ _ (by revert f; decide)

/-- The share a transfer out of the output block reads at: the two that pass a chunk on take a half each. -/
def shr : Fin 6 → PosShare TreeShare
  | 2 => fullShare.left
  | 3 => fullShare.right
  | _ => fullShare

/-- What a transfer's leaving hands back: its source. -/
def sendPay (t : T) (c : Dev nD) : sProp 𝕄 :=
  match t.1 with
  | 0 => xRun m c (row t c) (len t.1)
  | 1 => xRun m c (row t c) (len t.1)
  | f => oRun (shr f) c (row t c) (len t.1) (fin σ m c)
/-- What a landing hands over: the rows, final. -/
def recvPay (t : T) (c : Dev nD) : sProp 𝕄 := oRun fullShare c (land σ t c) (len t.1) (fin σ m c)
def pay : Bool → T → Dev nD → sProp 𝕄
  | false => sendPay σ m
  | true => recvPay σ m

/-- The two rows of the tables of a direction: its chunks and its piece of the diagonal quadrant. -/
def chunkRow : Fin 3 → Fin 6
  | 0 => 0 | 1 => 2 | 2 => 3
def pieceRow : Fin 3 → Fin 6
  | 0 => 1 | 1 => 4 | 2 => 5
/-- What the neighbour `n` of `c` hands it to write: rows of `n`'s output block. -/
def spare (n : Dev nD) (t : T) (c : Dev nD) : sProp 𝕄 := iprop(∃ f, oRun (F := F) fullShare n (row t c) (len t.1) f)
def barPay (d : Fin 3) (c : Dev nD) : sProp 𝕄 :=
  iprop(bigSep Finset.univ (fun i : Fin 16 => spare (F := F) (nbr σ d c) (chunkRow d, i) c) ∗ spare (F := F) (nbr σ d c) (pieceRow d, 0) c)

def xRd : Rounds.Schedule (GSem nD τ sig) (Fin 3) 𝕄 where
  duties g r :=
    if r = 0 ∧ g.1.2 = .tc then
      match g.2 with
      | .reg s => if s = barS then Finset.univ else ∅
      | .dma q =>
        match role q with
        | some p => if used p.2 = true then {0} else ∅
        | none => ∅
    else ∅
  unitless _ := False
  amount g _ _ :=
    match g.2 with
    | .reg _ => 1
    | .dma q =>
      match role q with
      | some p => Nn (len p.2.1)
      | none => 1
  payload g _ d :=
    match g.2 with
    | .reg _ => barPay σ d g.1.1
    | .dma q =>
      match role q with
      | some p => pay σ m p.1 p.2 g.1.1
      | none => iprop(emp)
  amount_pos g _ _ _ := by
    match g.2 with
    | .reg _ => exact Nat.one_pos
    | .dma q =>
      dsimp only
      match role q with
      | some p => exact Nn_pos _
      | none => exact Nat.one_pos

instance pay_storable (b : Bool) (t : T) (c : Dev nD) : BI.Storable (upEmb : UEmb _ 𝕄) (pay σ m b t c) := by
  cases b
  · show BI.Storable (upEmb : UEmb _ 𝕄) (sendPay σ m t c)
    unfold sendPay
    split <;> infer_instance
  · show BI.Storable (upEmb : UEmb _ 𝕄) (recvPay σ m t c)
    unfold recvPay; infer_instance

instance barPay_storable (d : Fin 3) (c : Dev nD) : BI.Storable (upEmb : UEmb _ 𝕄) (barPay (F := F) σ d c) := by
  unfold barPay spare; infer_instance

instance payload_storable (g : GSem nD τ sig) (r : ℕ) (d : Fin 3) : BI.Storable (upEmb : UEmb _ 𝕄) ((xRd (F := F) σ m).payload g r d) := by
  obtain ⟨θ, sm⟩ := g
  cases sm with
  | reg s => exact barPay_storable σ d θ.1
  | dma q =>
    show BI.Storable (upEmb : UEmb _ 𝕄) (match role q with | some p => pay σ m p.1 p.2 θ.1 | none => iprop(emp))
    cases role q with
    | some p => exact pay_storable σ m p.1 p.2 θ.1
    | none => dsimp only; infer_instance

section Facts
variable (b : Bool) (t : T) (c : Dev nD)

theorem duties_bar : (xRd (F := F) σ m).duties (barCell c) 0 = Finset.univ := by
  dsimp only [xRd]; rw [if_pos ⟨rfl, rfl⟩, if_pos rfl]
theorem duties_cell (h : used t = true) : (xRd (F := F) σ m).duties (cell b t c) 0 = {0} := by
  dsimp only [xRd]; rw [if_pos ⟨rfl, rfl⟩, role_dsem]; exact if_pos h
theorem duties_unused (h : used t = false) : ∀ r, 0 ≤ r → (xRd (F := F) σ m).duties (cell b t c) r = ∅ := fun r _ => by
  dsimp only [xRd]
  split
  · rw [role_dsem]; exact if_neg (by rw [h]; decide)
  · rfl
theorem duties_later (g : GSem nD τ sig) : ∀ r, 1 ≤ r → (xRd (F := F) σ m).duties g r = ∅ :=
  fun r hr => by dsimp only [xRd]; rw [if_neg fun h => by omega]

theorem amount_bar (d : Fin 3) : (xRd (F := F) σ m).amount (barCell c) 0 d = 1 := rfl
theorem amount_cell (d : Fin 3) : (xRd (F := F) σ m).amount (cell b t c) 0 d = Nn (len t.1) := by
  dsimp only [xRd]; rw [role_dsem]
theorem expect_bar : (xRd (F := F) σ m).expect (barCell c) 0 = 3 := by
  unfold Schedule.expect Schedule.amountOf
  rw [duties_bar, Finset.sum_congr rfl fun d _ => amount_bar σ m c d, Finset.sum_const, Finset.card_univ, Fintype.card_fin, smul_eq_mul]
theorem expect_cell (h : used t = true) : (xRd (F := F) σ m).expect (cell b t c) 0 = Nn (len t.1) := by
  unfold Schedule.expect Schedule.amountOf; rw [duties_cell σ m b t c h, Finset.sum_singleton, amount_cell]

theorem payload_bar (d : Fin 3) : (xRd (F := F) σ m).payload (barCell c) 0 d = barPay σ d c := rfl
theorem payload_cell (d : Fin 3) : (xRd (F := F) σ m).payload (cell b t c) 0 d = pay σ m b t c := by
  dsimp only [xRd]; rw [role_dsem]

theorem rest_bar : bigSep ((xRd (F := F) σ m).duties (barCell c) 0 \ ∅) (fun d => (xRd (F := F) σ m).payload (barCell c) 0 d)
    = iprop(barPay σ 0 c ∗ barPay σ 1 c ∗ barPay σ 2 c) := by
  rw [Finset.sdiff_empty, duties_bar, bigSep_univ_eq_bigSepL [0, 1, 2] (by decide) (by decide), bigSepL_cons_cons, bigSepL_cons_cons, bigSepL_singleton]
  rfl
theorem rest_cell (h : used t = true) : bigSep ((xRd (F := F) σ m).duties (cell b t c) 0 \ ∅) (fun d => (xRd (F := F) σ m).payload (cell b t c) 0 d)
    = pay σ m b t c := by
  rw [Finset.sdiff_empty, duties_cell σ m b t c h, bigSep_singleton, payload_cell]

end Facts

/-! ## What a device owes, and the levels -/

/-- The chunks sent along x, then `l`; the chunks passed on, then `l`. -/
def chunksX : List (Fin 16) → List T → List T
  | [], l => l
  | i :: is, l => (0, i) :: chunksX is l
def chunksYZ : List (Fin 16) → List T → List T
  | [], l => l
  | i :: is, l => (2, i) :: (3, i) :: chunksYZ is l
/-- All transfers in the order a device starts them. -/
def order : List T := chunksX all16 ((1, 0) :: chunksYZ all16 [(4, 0), (5, 0)])

/-- The landings of a list of transfers out of `c`, owed. -/
def owe (c : Dev nD) : List T → CellTallies nD τ sig Unit
  | [] => 0
  | t :: l => owe c l + tallyAt (cell true t (peer σ t c)) () (Nn (len t.1))
def O₀ (c : Dev nD) : CellTallies nD τ sig Unit :=
  owe σ c order + tallyAt (barCell (zn c)) () 1 + tallyAt (barCell (yn c)) () 1 + tallyAt (barCell (σ.tgt c)) () 1

def lvF : Fin 6 → ℕ
  | 0 => 2 | 1 => 2 | 2 => 3 | 3 => 3 | 4 => 4 | 5 => 4
def L (g : GSem nD τ sig) : Finset Unit := if g.1.2 = .tc then {()} else ∅
/-- Leaving at 0, the barrier at 1, landing by how many hops lie behind. -/
def lv (g : GSem nD τ sig) (_ : Unit) : ℕ :=
  match g.2 with
  | .reg _ => 1
  | .dma q =>
    match role q with
    | some (true, t) => lvF t.1
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_land (t : T) (c : Dev nD) (u : Unit) : lv (cell true t c) u = lvF t.1 := by dsimp only [lv]; rw [role_dsem]
theorem lv_leave (t : T) (c : Dev nD) (u : Unit) : lv (cell false t c) u = 0 := by dsimp only [lv]; rw [role_dsem]
theorem lvF_pos (f : Fin 6) : 1 < lvF f := by revert f; decide

theorem owe_pos {c : Dev nD} {g : GSem nD τ sig} {u : Unit} : ∀ {l : List T}, 0 < owe σ c l g u → ∃ t ∈ l, g = cell true t (peer σ t c)
  | [], h => absurd h (Nat.lt_irrefl 0)
  | t :: l, h => by
    unfold owe at h
    rw [Pi.add_apply, Finsupp.add_apply, tallyAt_apply] at h
    by_cases hg : g = cell true t (peer σ t c) ∧ u = ()
    · exact ⟨t, List.mem_cons_self, hg.1⟩
    · rw [if_neg hg, Nat.add_zero] at h
      obtain ⟨t', ht, hg'⟩ := owe_pos h
      exact ⟨t', List.mem_cons_of_mem _ ht, hg'⟩

omit [FloatOps F] in
theorem tallies_pos {X : CellTallies nD τ sig Unit} {g g₁ g₂ g₃ : GSem nD τ sig} {u : Unit}
    (h : 0 < (X + tallyAt g₁ () 1 + tallyAt g₂ () 1 + tallyAt g₃ () 1) g u) : 0 < X g u ∨ g = g₁ ∨ g = g₂ ∨ g = g₃ := by
  rw [Pi.add_apply, Finsupp.add_apply, Pi.add_apply, Finsupp.add_apply, Pi.add_apply, Finsupp.add_apply,
    tallyAt_apply, tallyAt_apply, tallyAt_apply] at h
  by_contra hn
  rw [not_or, not_or, not_or] at hn
  rw [if_neg (fun h' => hn.2.1 h'.1), if_neg (fun h' => hn.2.2.1 h'.1), if_neg (fun h' => hn.2.2.2 h'.1)] at h
  exact hn.1 h

theorem O₀_pos {c : Dev nD} {g : GSem nD τ sig} {u : Unit} (h : 0 < O₀ σ c g u) :
    (∃ t ∈ order, g = cell true t (peer σ t c)) ∨ ∃ d : Dev nD, g = barCell d := by
  unfold O₀ at h
  rcases tallies_pos h with h | h | h | h
  · exact .inl (owe_pos σ h)
  · exact .inr ⟨_, h⟩
  · exact .inr ⟨_, h⟩
  · exact .inr ⟨_, h⟩

omit [FloatOps F] in
/-- A device may wait on a cell below all the landings it still owes. -/
theorem mayWait_list (c : Dev nD) (sm : SemLoc sig) (l : List T) (h : ∀ t ∈ l, lv ((c : Thread nD τ), sm) () < lvF t.1) :
    (levAts L lv : sProp 𝕄) ⊢ MayWait (c : Thread nD τ) sm () (owe σ c l) :=
  MayOwe.of_cut (L := L) (lev := lv) (lv ((c : Thread nD τ), sm) ())
    (fun p hp => by rw [Finset.mem_singleton.mp hp, L_tc]; exact Finset.mem_singleton_self _)
    (fun g u hg => by obtain ⟨t, _, rfl⟩ := owe_pos σ hg; rw [L_tc]; exact Finset.mem_singleton_self _)
    (fun p hp => by rw [Finset.mem_singleton.mp hp])
    (fun g u hg => by obtain ⟨t, ht, rfl⟩ := owe_pos σ hg; rw [lv_land]; exact h t ht)

omit [FloatOps F] in
theorem mayWait_stage (c : Dev nD) (q : DmaSem sig) (hq : lv ((c : Thread nD τ), .dma q) () = 0) (O : CellTallies nD τ sig Unit)
    (hO : O = O₀ σ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos σ hg with ⟨t, _, rfl⟩ | ⟨d, rfl⟩ <;> exact Finset.mem_singleton_self _)
      (fun p hp => by rw [Finset.mem_singleton.mp hp, hq])
      (fun g u hg => by
        rcases O₀_pos σ hg with ⟨t, _, rfl⟩ | ⟨d, rfl⟩
        · rw [lv_land]; exact Nat.lt_trans Nat.one_pos (lvF_pos _)
        · exact Nat.one_pos)
  · rw [MayWait_zero]; iintro -; iempintro

end Cert.KernelIdealProof

end
-- ==== Proof.KernelIdealSteps.lean ====
/-
# One step of the body at a time

Starting a transfer, waiting for one, and a run of such steps over a list of chunks.
-/
module

public import proofs.«01_k».proof.Proof.KernelIdealSched

@[expose] public section

noncomputable section

namespace Cert.KernelIdealProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Swap) (m : (ℓ : Loc nD τ sig) → Buf (Elt F) ℓ)

abbrev 𝒱₀ : Variants := Variants.none

/-- Running `p` on device `c` ends in `Q`. -/
abbrev runs (c : Dev nD) (p : KP F) (Q : PUnit → sProp 𝕄) : sProp 𝕄 :=
  wp frame (wpE (defs₀ (F := F)) 𝒱₀ (c : Thread nD τ) none) Set.univ p Q

/-! ## What every device knows -/

def records (K : Dev nD × Kd → ℕ) : sProp 𝕄 :=
  iprop((bigSep Finset.univ fun p : Dev nD × Kd => cellInv ER (xRd (F := F) σ m) (K p) (kcell p))
    ∗ bigSep Finset.univ fun p : Dev nD × Kd => reached ER (kcell p) 0)
instance records_persistent (K : Dev nD × Kd → ℕ) : BI.Persistent (records σ m K) := by unfold records; infer_instance

variable (K : Dev nD × Kd → ℕ)

theorem inv_at (p : Dev nD × Kd) :
    (bigSep Finset.univ fun p : Dev nD × Kd => (cellInv ER (xRd (F := F) σ m) (K p) (kcell p) : sProp 𝕄)) ⊢ cellInv ER (xRd (F := F) σ m) (K p) (kcell p) :=
  bigSep_elim (Finset.mem_univ p)
omit [FloatOps F] in
theorem reached_at (p : Dev nD × Kd) :
    (bigSep Finset.univ fun p : Dev nD × Kd => (reached ER (kcell p) 0 : sProp 𝕄)) ⊢ reached ER (kcell p) 0 :=
  bigSep_elim (Finset.mem_univ p)
theorem records_inv (p : Dev nD × Kd) : records σ m K ⊢ cellInv ER (xRd (F := F) σ m) (K p) (kcell p) := by
  unfold records; iintro ⟨H, -⟩
  iapply (inv_at σ m K p); iexact H
theorem records_reached (p : Dev nD × Kd) : records σ m K ⊢ reached ER (kcell p) 0 := by
  unfold records; iintro ⟨-, H⟩
  iapply (reached_at p); iexact H

/-- What a device still owes, whatever it has waited for. -/
def owesAny (c : Dev nD) (l : List T) : sProp 𝕄 := iprop(∃ W, owes (c : Thread nD τ) (owe σ c l) W)

/-! ## The rows a memref names -/

omit [FloatOps F] in
theorem set_cut (M : Memref sig .tc .hbm S1x2048x1024 .f32) (n a : ℕ) (o : Fin 3 → ℕ) (h) (ho : o = ![0, a, 0]) (j : S1x2048x1024.Idx) :
    j ∈ (Rect.unit (s := S1x2048x1024) o (Rw n).size h).set ↔ a ≤ (j (1 : Fin 3)).val ∧ (j (1 : Fin 3)).val < a + n := by
  subst ho
  rw [Rect.mem_set_unit]
  constructor
  · intro hj; exact hj (1 : Fin 3)
  · intro hj a'
    match a' with
    | ⟨0, _⟩ => exact ⟨Nat.zero_le _, by have := (j (0 : Fin 3)).isLt; exact Nat.lt_of_lt_of_le this (Nat.le_refl 1)⟩
    | ⟨1, _⟩ => exact hj
    | ⟨2, _⟩ => exact ⟨Nat.zero_le _, by have := (j (2 : Fin 3)).isLt; exact Nat.lt_of_lt_of_le this (Nat.le_refl 1024)⟩

omit [FloatOps F] in
theorem set_x (c : Dev nD) (n a : ℕ) (o : Fin 3 → ℕ) (h) (ho : o = ![0, a, 0]) : (cut xM n o h).view.set = runOf (rX c) a n := by
  refine (View.set_slice_whole main_arg0 _).trans (Finset.ext fun j => ?_)
  exact (set_cut xM n a o h ho j).trans (mem_runOf (ℓ := (c : Thread nD τ).loc main_arg0) (rX c)).symm
omit [FloatOps F] in
theorem set_o (c : Dev nD) (n a : ℕ) (o : Fin 3 → ℕ) (h) (ho : o = ![0, a, 0]) : (cut oM n o h).view.set = runOf (rO c) a n := by
  refine (View.set_slice_whole main_v1 _).trans (Finset.ext fun j => ?_)
  exact (set_cut oM n a o h ho j).trans (mem_runOf (ℓ := (c : Thread nD τ).loc main_v1) (rO c)).symm

theorem run_x (c : Dev nD) (q : PosShare TreeShare) (n a : ℕ) (o : Fin 3 → ℕ) (h) (ho : o = ![0, a, 0]) (f : Buf (Elt F) ((c : Thread nD τ).loc main_arg0)) :
    ((cut xM n o h).view.loc (c : Thread nD τ) ↦[(cut xM n o h).view.set]{q} f : sProp 𝕄) = run (rX c) q a n f := by
  unfold run; rw [set_x c n a o h ho]
theorem run_o (c : Dev nD) (q : PosShare TreeShare) (n a : ℕ) (o : Fin 3 → ℕ) (h) (ho : o = ![0, a, 0]) (f : Buf (Elt F) ((c : Thread nD τ).loc main_v1)) :
    ((cut oM n o h).view.loc (c : Thread nD τ) ↦[(cut oM n o h).view.set]{q} f : sProp 𝕄) = run (rO c) q a n f := by
  unfold run; rw [set_o c n a o h ho]

/-- A block's rows copied to the same rows of an output block: those rows are the block's. -/
theorem copied_x (c d : Dev nD) (n a : ℕ) (o : Fin 3 → ℕ) (h h') (ho : o = ![0, a, 0]) (fs : Buf (Elt F) ((c : Thread nD τ).loc main_arg0))
    (fd : Buf (Elt F) ((d : Thread nD τ).loc main_v1)) (j : Idx ((d : Thread nD τ).loc main_v1)) (hj : a ≤ rO d j) (hj' : rO d j < a + n) :
    (cut oM n o h').view.write (Elt F) fd ((cut xM n o h).view.read (Elt F) fs) Finset.univ j = fs j := by
  have hm : j ∈ (cut oM n o h').view.set := by rw [set_o d n a o h' ho]; exact (mem_runOf _).mpr ⟨hj, hj'⟩
  obtain ⟨x, -, rfl⟩ := Finset.mem_map.mp hm
  exact (View.write_emb_of_mem _ _ (Finset.mem_univ x)).trans rfl
theorem copied_o (c d : Dev nD) (n a : ℕ) (o : Fin 3 → ℕ) (h h') (ho : o = ![0, a, 0]) (fs : Buf (Elt F) ((c : Thread nD τ).loc main_v1))
    (fd : Buf (Elt F) ((d : Thread nD τ).loc main_v1)) (j : Idx ((d : Thread nD τ).loc main_v1)) (hj : a ≤ rO d j) (hj' : rO d j < a + n) :
    (cut oM n o h').view.write (Elt F) fd ((cut oM n o h).view.read (Elt F) fs) Finset.univ j = fs j := by
  have hm : j ∈ (cut oM n o h').view.set := by rw [set_o d n a o h' ho]; exact (mem_runOf _).mpr ⟨hj, hj'⟩
  obtain ⟨x, -, rfl⟩ := Finset.mem_map.mp hm
  exact (View.write_emb_of_mem _ _ (Finset.mem_univ x)).trans rfl

/-! ## Starting a transfer -/

abbrev tokL (t : T) (c : Dev nD) : sProp 𝕄 := dutyTok ER (cell false t c) 0 0
abbrev tokR (t : T) (c : Dev nD) : sProp 𝕄 := dutyTok ER (cell true t (peer σ t c)) 0 0
abbrev credOf (b : Bool) (t : T) (c : Dev nD) : sProp 𝕄 := cred (tallyAt (cell b t c) () (Nn (len t.1)))

theorem start_any (c : Dev nD) (t : T) (hu : used t = true) {src : Memref sig .tc .hbm (Rw (len t.1)) .f32} {o : Fin 3 → ℕ} {h'}
    (ho : o = ![0, row t c, 0]) {q : PosShare TreeShare} {fs : Buf (Elt F) (src.view.loc (c : Thread nD τ))}
    (hsrc : (src.view.loc (c : Thread nD τ) ↦[src.view.set]{q} fs : sProp 𝕄) = sendPay σ m t c)
    (hval : ∀ (fd : Buf (Elt F) ((peer σ t c : Thread nD τ).loc main_v1)) (j : Idx ((peer σ t c : Thread nD τ).loc main_v1)), row t c ≤ rO _ j → rO _ j < row t c + len t.1 →
      (cut oM (len t.1) o h').view.write (Elt F) fd (src.view.read (Elt F) fs) Finset.univ j = fin σ m (peer σ t c) j)
    (l : List T) (k : KP F) (Q : PUnit → sProp 𝕄) :
    iprop(records σ m K ∗ sendPay σ m t c ∗ spare (F := F) (peer σ t c) t c ∗ owesAny σ c (t :: l) ∗ tokL t c ∗ tokR σ t c)
      ⊢ iprop(((credOf false t c ∗ owesAny σ c l) -∗ runs c k Q)
          -∗ runs c (startP src (cut oM (len t.1) o h') (peer σ t c) (dsem false t) (dsem true t) k) Q) := by
  unfold spare owesAny
  iintro ⟨#HR, Hs, ⟨%fd, Hd⟩, ⟨%W, HO⟩, Ht, Ht'⟩ Hk
  ihave #HI := (records_inv σ m K (c, some (false, t))) $$ HR
  ihave #HI' := (records_inv σ m K (peer σ t c, some (true, t))) $$ HR
  ihave #Hr := (records_reached σ m K (c, some (false, t))) $$ HR
  ihave #Hr' := (records_reached σ m K (peer σ t c, some (true, t))) $$ HR
  ihave Hs' := (Entails.of_eq hsrc.symm) $$ Hs
  ihave Hd' := (Entails.of_eq (run_o (peer σ t c) fullShare (len t.1) (row t c) o h' ho fd).symm) $$ Hd
  iapply (Rounds.wp_send_pointsTo 𝒱₀ ER (xRd (F := F) σ m) (c : Thread nD τ) none (κ₁ := K (c, some (false, t))) (κ₂ := K (peer σ t c, some (true, t)))
      (c' := (peer σ t c : Thread nD τ)) (sS := .dma (dsem false t)) (sem := .dma (dsem true t))
      (r₁ := 0) (r₂ := 0) (d₁ := 0) (d₂ := 0) (fd := fd) (fs := fs) (src := src) (dst := cut oM (len t.1) o h')
      (by rw [duties_cell σ m false t c hu]; exact Finset.mem_singleton_self _) (by rw [duties_cell σ m true t _ hu]; exact Finset.mem_singleton_self _)
      () () (Nn (len t.1)) rfl (amount_cell σ m false t c 0) (amount_cell σ m true t _ 0) (owe σ c l) rfl (W := W)
      (by rw [payload_cell]; exact Entails.of_eq hsrc)
      (by
        rw [payload_cell, run_o (peer σ t c) fullShare (len t.1) (row t c) o h' ho, run_congr _ _ _ (fin σ m (peer σ t c)) _ _ (hval fd)]
        show _ ⊢ recvPay σ m t (peer σ t c)
        unfold recvPay land
        rw [peer_peer]))
    $$ [Hs' Hd' HO Ht Ht']
  · isplitr; · iexact HI
    isplitr; · iexact HI'
    isplitl [Hs']; · iexact Hs'
    isplitl [Hd']; · iexact Hd'
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- A transfer out of the input block. -/
theorem start_x (c n : Dev nD) (t : T) (hu : used t = true) (hf : t.1 = 0 ∨ t.1 = 1) (hn : n = peer σ t c) {w : ℕ} (hw : w = len t.1)
    {o : Fin 3 → ℕ} {h h'} (ho : o = ![0, row t c, 0]) (l : List T) (k : KP F) (Q : PUnit → sProp 𝕄) :
    iprop(records σ m K ∗ sendPay σ m t c ∗ spare (F := F) (peer σ t c) t c ∗ owesAny σ c (t :: l) ∗ tokL t c ∗ tokR σ t c)
      ⊢ iprop(((credOf false t c ∗ owesAny σ c l) -∗ runs c k Q)
          -∗ runs c (startP (cut xM w o h) (cut oM w o h') n (dsem false t) (dsem true t) k) Q) := by
  subst hn hw
  obtain ⟨f, i⟩ := t
  have hp : peer σ (f, i) c = σ.tgt c := by rcases hf with h | h <;> (dsimp only at h; rw [h]; rfl)
  have hs : sendPay σ m (f, i) c = xRun m c (row (f, i) c) (len f) := by rcases hf with h | h <;> (dsimp only at h; rw [h]; rfl)
  refine start_any σ m K c (f, i) hu ho (q := fullShare) (fs := xBlk m c) ?_ (fun fd j hj hj' => ?_) l k Q
  · rw [hs]; exact run_x c fullShare _ _ o h ho _
  · rw [copied_x c (peer σ (f, i) c) _ _ o h h' ho _ fd j hj hj']
    revert fd j; rw [hp]; intro fd j hj hj'
    exact (carry_x σ m c f i hf j hj hj').symm

/-- A transfer out of the output block. -/
theorem start_o (c n : Dev nD) (t : T) (hu : used t = true) (hf : t.1 ≠ 0 ∧ t.1 ≠ 1) (hn : n = peer σ t c) {w : ℕ} (hw : w = len t.1)
    {o : Fin 3 → ℕ} {h h'} (ho : o = ![0, row t c, 0]) (l : List T) (k : KP F) (Q : PUnit → sProp 𝕄) :
    iprop(records σ m K ∗ sendPay σ m t c ∗ spare (F := F) (peer σ t c) t c ∗ owesAny σ c (t :: l) ∗ tokL t c ∗ tokR σ t c)
      ⊢ iprop(((credOf false t c ∗ owesAny σ c l) -∗ runs c k Q)
          -∗ runs c (startP (cut oM w o h) (cut oM w o h') n (dsem false t) (dsem true t) k) Q) := by
  subst hn hw
  have hs : sendPay σ m t c = oRun (shr t.1) c (row t c) (len t.1) (fin σ m c) := by
    obtain ⟨f, i⟩ := t
    match f, hf with
    | 0, hf => exact absurd rfl hf.1
    | 1, hf => exact absurd rfl hf.2
    | 2, _ => rfl
    | 3, _ => rfl
    | 4, _ => rfl
    | 5, _ => rfl
  refine start_any σ m K c t hu ho (q := shr t.1) (fs := fin σ m c) ?_ (fun fd j hj hj' => ?_) l k Q
  · rw [hs]; exact run_o c _ _ _ o h ho _
  · rw [copied_o c (peer σ t c) _ _ o h h' ho _ fd j hj hj']
    exact (carry_yz σ m c t hf j hj hj').symm

/-! ## Waiting for a transfer -/

abbrev atZero (b : Bool) (t : T) (c : Dev nD) : sProp 𝕄 := atPos ER (cell b t c) 0 ∅ 0
abbrev zeroed (b : Bool) (t : T) (c : Dev nD) : sProp 𝕄 := semVal (cell b t c) 0

/-- A wait on a cell of the tables, below every landing still owed: its payload, and its counter back at zero. -/
theorem wait_cell (c : Dev nD) (b : Bool) (t : T) (hu : used t = true) (l : List T) (hl : ∀ s ∈ l, lv (cell b t c) () < lvF s.1)
    {s : Shape} {src dst : Memref sig .tc .hbm s .f32} (hN : dst.view.dmaCredit = Nn (len t.1)) (k : KP F) (Q : PUnit → sProp 𝕄) :
    iprop(records σ m K ∗ levAts L lv ∗ credOf b t c ∗ atZero b t c ∗ owesAny σ c l)
      ⊢ iprop(((zeroed b t c ∗ pay σ m b t c ∗ owesAny σ c l) -∗ runs c k Q) -∗ runs c (waitP (dsem b t) src dst k) Q) := by
  unfold owesAny
  iintro ⟨#HR, #Hlev, Hc, Hat, ⟨%W, HO⟩⟩ Hk
  ihave #HI := (records_inv σ m K (c, some (b, t))) $$ HR
  iapply (Rounds.wp_wait_rest_token 𝒱₀ ER (xRd (F := F) σ m) (c : Thread nD τ) none (κ := K (c, some (b, t)))
      (wpE_waitDma2_eq 𝒱₀ (c : Thread nD τ) none Set.univ) (Set.mem_univ _) () (O := owe σ c l) (W := W) (R := 0) (m := 0) (T := ∅)
      (by rw [Nat.zero_add, expect_cell σ m b t c hu]; exact hN)) $$ [Hc HO Hat]
  · isplitr; · iexact HI
    isplitl [Hc]; · rw [hN]; iexact Hc
    isplitl [HO]; · iexact HO
    isplitr; · iapply (mayWait_list σ c (.dma (dsem b t)) l hl); iexact Hlev
    iexact Hat
  iintro ⟨HO, Hat, -, Hpay⟩
  ihave Hp := (Entails.of_eq (rest_cell σ m b t c hu)) $$ Hpay
  imod (Rounds.cell_close ER (xRd (F := F) σ m) (Set.mem_univ (K (c, some (b, t)))) (fun h => h) (R := 0 + 1) (duties_later σ m (cell b t c))) $$ [Hat] with Hz
  · isplitr; · iexact HI
    iexact Hat
  iapply Hk
  isplitl [Hz]; · iexact Hz
  isplitl [Hp]; · iexact Hp
  iexists _; iexact HO

/-! ## A run of steps -/

/-- Steps over a list: each takes its `A i` and leaves its `B i`, `R` being what runs through. -/
theorem over_list (c : Dev nD) (f : Fin 16 → KP F → KP F) (R : List (Fin 16) → sProp 𝕄) (A B : Fin 16 → sProp 𝕄) (Q : PUnit → sProp 𝕄)
    (hstep : ∀ i l k, iprop(R (i :: l) ∗ A i) ⊢ iprop(((R l ∗ B i) -∗ runs c k Q) -∗ runs c (f i k) Q)) :
    ∀ (l : List (Fin 16)) (k : KP F), iprop(R l ∗ each A l) ⊢ iprop(((R [] ∗ each B l) -∗ runs c k Q) -∗ runs c (overP f l k) Q)
  | [], k => by
    unfold each
    show _ ⊢ iprop(_ -∗ runs c k Q)
    iintro ⟨HR, -⟩ Hk
    iapply Hk
    isplitl [HR]; · iexact HR
    iempintro
  | i :: l, k => by
    have ih := over_list c f R A B Q hstep l k
    unfold each
    show _ ⊢ iprop(_ -∗ runs c (f i (overP f l k)) Q)
    iintro ⟨HR, HA, HL⟩ Hk
    iapply (hstep i l (overP f l k)) $$ [HR HA]
    · isplitl [HR] <;> iassumption
    iintro ⟨HR, HB⟩
    iapply ih $$ [HR HL]
    · isplitl [HR] <;> iassumption
    iintro ⟨HR, HL⟩
    iapply Hk
    isplitl [HR]; · iexact HR
    isplitl [HB] <;> iassumption

end Cert.KernelIdealProof

end
-- ==== Proof.KernelIdealPhases.lean ====
/-
# The phases of the body

The barrier, the chunks along x, the chunks passed on, the chunks coming in with the two pieces passed on, and the last
waits: each as one rule.
-/
module

public import proofs.«01_k».proof.Proof.KernelIdealSteps

@[expose] public section

noncomputable section

namespace Cert.KernelIdealProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Swap) (m : (ℓ : Loc nD τ sig) → Buf (Elt F) ℓ) (K : Dev nD × Kd → ℕ)

/-- A cell's credit and position before its wait; its counter and payload after. -/
abbrev due (b : Bool) (t : T) (c : Dev nD) : sProp 𝕄 := iprop(credOf (F := F) b t c ∗ atZero (F := F) b t c)
abbrev got (b : Bool) (t : T) (c : Dev nD) : sProp 𝕄 := iprop(zeroed (F := F) b t c ∗ pay σ m b t c)
/-- What starting a transfer takes besides its source: the rows at its target and its two tokens. -/
abbrev arm (t : T) (c : Dev nD) : sProp 𝕄 := iprop(spare (F := F) (peer σ t c) t c ∗ tokL (F := F) t c ∗ tokR (F := F) σ t c)

/-! ## The barrier -/

/-- The rows of `c`'s output block its neighbour in direction `d` will write, handed over. -/
theorem hand (d : Fin 3) (c : Dev nD) (f : Buf (Elt F) ((c : Thread nD τ).loc main_v1)) :
    iprop(each (fun i => oRun (F := F) fullShare c (land σ (chunkRow d, i) c) 32 f) all16 ∗ oRun (F := F) fullShare c (land σ (pieceRow d, 0) c) (len (pieceRow d)) f)
      ⊢ barPay (F := F) σ d (nbr σ d c) := by
  have hd : dir (chunkRow d) = d := by revert d; decide
  have hd' : dir (pieceRow d) = d := by revert d; decide
  have hl : len (chunkRow d) = 32 := by revert d; decide
  unfold barPay spare
  rw [nbr_nbr, bigSep_all16]
  dsimp only
  rw [hl]
  iintro ⟨H, H'⟩
  isplitl [H]
  · iapply (each_mono (Φ := fun i => oRun (F := F) fullShare c (land σ (chunkRow d, i) c) 32 f) (fun i => ?_) all16) $$ H
    unfold land peer
    dsimp only
    rw [hd]
    iintro H; iexists f; iexact H
  · unfold land peer
    dsimp only
    rw [hd']
    iexists f; iexact H'

/-- A whole output block handed to the three neighbours. -/
theorem hand_all (c : Dev nD) (f : Buf (Elt F) ((c : Thread nD τ).loc main_v1)) :
    oRun (F := F) fullShare c 0 2048 f ⊢ iprop(barPay (F := F) σ 0 (σ.tgt c) ∗ barPay (F := F) σ 1 (yn c) ∗ barPay (F := F) σ 2 (zn c)) := by
  show run (rO c) fullShare 0 2048 f ⊢ _
  rw [run_block (rO c) fullShare f c, run_thirds _ _ _ (512 * (3 - c.val % 4)), ← run_quadrant, ← run_quadrant, ← run_quadrant]
  iintro ⟨Ho, Hy, Hz, Hd1, Hd2, Hd3⟩
  isplitl [Ho Hd1]
  · iapply (hand σ 0 c f)
    isplitl [Ho]
    · iapply (Entails.of_eq (each_congr (fun i => by rw [show land σ (chunkRow 0, i) c = _ from land_x σ i c]) all16)) $$ Ho
    · rw [show land σ (pieceRow 0, 0) c = _ from land_xe σ c]; iexact Hd1
  isplitl [Hy Hd2]
  · iapply (hand σ 1 c f)
    isplitl [Hy]
    · iexact Hy
    · rw [show land σ (pieceRow 1, 0) c = _ from land_yd σ c]; iexact Hd2
  · iapply (hand σ 2 c f)
    isplitl [Hz]
    · iexact Hz
    · rw [show land σ (pieceRow 2, 0) c = _ from land_zd σ c]; iexact Hd3

abbrev tokB (d : Fin 3) (c : Dev nD) : sProp 𝕄 := dutyTok ER (barCell (nbr σ d c)) 0 d

/-- One signal of the barrier. -/
theorem signal_bar (c n : Dev nD) (d : Fin 3) (hn : n = nbr σ d c) (O : CellTallies nD τ sig Unit) (W : Waits sig Unit) (k : KP F) (Q : PUnit → sProp 𝕄) :
    iprop(records σ m K ∗ owes (c : Thread nD τ) (O + tallyAt (barCell (nbr σ d c)) () 1) W ∗ tokB (F := F) σ d c ∗ barPay (F := F) σ d (nbr σ d c))
      ⊢ iprop((owes (c : Thread nD τ) O W -∗ runs c k Q) -∗ runs c (signalP n k) Q) := by
  subst hn
  show _ ⊢ iprop(_ -∗ wp frame (wpE (defs₀ (F := F)) 𝒱₀ (c : Thread nD τ) none) Set.univ (.op (.semSignal (Dev.tc (nbr σ d c)) barS (1#32 : BitVec 32).toInt) fun _ => k) Q)
  rw [show (1#32 : BitVec 32).toInt = ((1 : ℕ) : Int) from rfl]
  iintro ⟨#HR, HO, Ht, Hp⟩ Hk
  ihave #HI := (records_inv σ m K (nbr σ d c, none)) $$ HR
  ihave #Hr := (records_reached σ m K (nbr σ d c, none)) $$ HR
  iapply (Rounds.wp_signal 𝒱₀ ER (xRd (F := F) σ m) (c : Thread nD τ) none (dst := (nbr σ d c : Thread nD τ)) (κ := K (nbr σ d c, none))
      (d := d) (by rw [duties_bar]; exact Finset.mem_univ _) (amount_bar σ m (nbr σ d c) d) () O rfl)
    $$ [HO Ht Hp]
  · isplitr; · iexact HI
    isplitl [HO]; · iexact HO
    isplitl [Ht]; · iexact Ht
    isplitl [Hp]; · rw [payload_bar]; iexact Hp
    iexact Hr
  iexact Hk

theorem order_levels : ∀ t ∈ order, 1 < lvF t.1 := fun t _ => lvF_pos t.1

/-- The barrier: the output block goes out, the neighbours' rows come in. -/
theorem barrier (c : Dev nD) (f : Buf (Elt F) ((c : Thread nD τ).loc main_v1)) (W : Waits sig Unit) (k : KP F) (Q : PUnit → sProp 𝕄) :
    iprop(records σ m K ∗ levAts L lv ∗ cred (tallyAt (barCell c) () 3) ∗ atPos ER (barCell c) 0 ∅ 0 ∗ tokB (F := F) σ 0 c ∗ tokB (F := F) σ 1 c ∗ tokB (F := F) σ 2 c
        ∗ owes (c : Thread nD τ) (O₀ σ c) W ∗ oRun (F := F) fullShare c 0 2048 f)
      ⊢ iprop(((owesAny σ c order ∗ semVal (barCell c) 0 ∗ barPay (F := F) σ 0 c ∗ barPay (F := F) σ 1 c ∗ barPay (F := F) σ 2 c) -∗ runs c k Q)
          -∗ runs c (signalP (σ.tgt c) <| signalP (yn c) <| signalP (zn c) <| .op (.semWait barS (3#32 : BitVec 32).toInt) fun _ => k) Q) := by
  iintro ⟨#HR, #Hlev, Hc, Hat, Ht0, Ht1, Ht2, HO, Hout⟩ Hk
  ihave Hp := (hand_all σ c f) $$ Hout
  icases Hp with ⟨Hp0, Hp1, Hp2⟩
  unfold O₀
  iapply (signal_bar σ m K c _ 0 rfl _ W _ Q) $$ [HO Ht0 Hp0]
  · isplitr; · iexact HR
    isplitl [HO]; · iexact HO
    isplitl [Ht0]; · iexact Ht0
    iexact Hp0
  iintro HO
  iapply (signal_bar σ m K c _ 1 rfl _ W _ Q) $$ [HO Ht1 Hp1]
  · isplitr; · iexact HR
    isplitl [HO]; · iexact HO
    isplitl [Ht1]; · iexact Ht1
    iexact Hp1
  iintro HO
  iapply (signal_bar σ m K c _ 2 rfl _ W _ Q) $$ [HO Ht2 Hp2]
  · isplitr; · iexact HR
    isplitl [HO]; · iexact HO
    isplitl [Ht2]; · iexact Ht2
    iexact Hp2
  iintro HO
  ihave #HI := (records_inv σ m K (c, none)) $$ HR
  rw [show (3#32 : BitVec 32).toInt = ((3 : ℕ) : Int) from rfl]
  iapply (Rounds.wp_wait_rest_token 𝒱₀ ER (xRd (F := F) σ m) (c : Thread nD τ) none (κ := K (c, none))
      (wpE_semWait_eq 𝒱₀ (c : Thread nD τ) none Set.univ) (Set.mem_univ _) () (O := owe σ c order) (W := W) (R := 0) (m := 0) (T := ∅)
      (by rw [Nat.zero_add]; exact (expect_bar σ m c).symm)) $$ [Hc HO Hat]
  · isplitr; · iexact HI
    isplitl [Hc]; · iexact Hc
    isplitl [HO]; · iexact HO
    isplitr; · iapply (mayWait_list σ c (.reg barS) order order_levels); iexact Hlev
    iexact Hat
  iintro ⟨HO, Hat, -, Hpay⟩
  ihave Hp := (Entails.of_eq (rest_bar σ m c)) $$ Hpay
  imod (Rounds.cell_close ER (xRd (F := F) σ m) (Set.mem_univ (K (c, none))) (fun h => h) (R := 0 + 1) (duties_later σ m (barCell c))) $$ [Hat] with Hz
  · isplitr; · iexact HI
    iexact Hat
  iapply Hk
  isplitl [HO]; · unfold owesAny; iexists _; iexact HO
  isplitl [Hz]; · iexact Hz
  iexact Hp

/-! ## The chunks along x, and passed on -/

theorem phase_x (c : Dev nD) (rest : List T) (l : List (Fin 16)) (k : KP F) (Q : PUnit → sProp 𝕄) :
    iprop((records σ m K ∗ owesAny σ c (chunksX l rest)) ∗ each (fun i => iprop(sendPay σ m (0, i) c ∗ arm (F := F) σ (0, i) c)) l)
      ⊢ iprop((((records σ m K ∗ owesAny σ c rest) ∗ each (fun i => credOf (F := F) false (0, i) c) l) -∗ runs c k Q)
          -∗ runs c (overP (sendX c (σ.tgt c)) l k) Q) := by
  refine over_list c (sendX c (σ.tgt c)) (fun l => iprop(records σ m K ∗ owesAny σ c (chunksX l rest))) _ _ Q (fun i l k => ?_) l k
  iintro ⟨⟨#HR, HO⟩, Hs, Hd, Ht, Ht'⟩ Hk
  iapply (start_x σ m K c (σ.tgt c) (0, i) rfl (Or.inl rfl) rfl rfl (off2_row c i) (chunksX l rest) k Q) $$ [Hs Hd HO Ht Ht']
  · isplitr; · iexact HR
    isplitl [Hs]; · iexact Hs
    isplitl [Hd]; · iexact Hd
    isplitl [HO]; · iexact HO
    isplitl [Ht] <;> iassumption
  iintro ⟨Hc, HO⟩
  iapply Hk
  isplitl [HO]
  · isplitr; · iexact HR
    iexact HO
  iexact Hc

theorem chunksYZ_levels {n : ℕ} (hn : n < 3) (rest : List T) (hr : ∀ t ∈ rest, n < lvF t.1) : ∀ l, ∀ t ∈ chunksYZ l rest, n < lvF t.1
  | [] => hr
  | i :: l => fun t ht => by
    rcases List.mem_cons.mp ht with rfl | ht
    · exact hn
    rcases List.mem_cons.mp ht with rfl | ht
    · exact hn
    exact chunksYZ_levels hn rest hr l t ht

/-- A chunk landed along x is read by the two transfers that pass it on, half a share each. -/
theorem halve (i : Fin 16) (c : Dev nD) : pay σ m true (0, i) c = iprop(sendPay σ m (2, i) c ∗ sendPay σ m (3, i) c) := by
  show recvPay σ m (0, i) c = _
  unfold recvPay
  rw [land_x]
  exact run_halves _ _ _ _ _

theorem phase_yz (c : Dev nD) (rest : List T) (hr : ∀ t ∈ rest, 2 < lvF t.1) (l : List (Fin 16)) (k : KP F) (Q : PUnit → sProp 𝕄) :
    iprop((records σ m K ∗ levAts L lv ∗ owesAny σ c (chunksYZ l rest)) ∗ each (fun i => iprop(due (F := F) true (0, i) c ∗ arm (F := F) σ (2, i) c ∗ arm (F := F) σ (3, i) c)) l)
      ⊢ iprop((((records σ m K ∗ levAts L lv ∗ owesAny σ c rest)
              ∗ each (fun i => iprop(zeroed (F := F) true (0, i) c ∗ credOf (F := F) false (2, i) c ∗ credOf (F := F) false (3, i) c)) l) -∗ runs c k Q)
          -∗ runs c (overP (passOn c (yn c) (zn c)) l k) Q) := by
  refine over_list c (passOn c (yn c) (zn c)) (fun l => iprop(records σ m K ∗ levAts L lv ∗ owesAny σ c (chunksYZ l rest))) _ _ Q (fun i l k => ?_) l k
  iintro ⟨⟨#HR, #Hlev, HO⟩, ⟨Hc, Hat⟩, ⟨Hd, Ht, Ht'⟩, Hd2, Ht2, Ht2'⟩ Hk
  iapply (wait_cell σ m K c true (0, i) rfl (chunksYZ (i :: l) rest) (by rw [lv_land]; exact chunksYZ_levels (by decide) rest hr _) rfl _ Q) $$ [Hc Hat HO]
  · isplitr; · iexact HR
    isplitr; · iexact Hlev
    isplitl [Hc]; · iexact Hc
    isplitl [Hat] <;> iassumption
  iintro ⟨Hz, Hp, HO⟩
  ihave Hp' := (Entails.of_eq (halve σ m i c)) $$ Hp
  icases Hp' with ⟨Hs, Hs2⟩
  iapply (start_o σ m K c (yn c) (2, i) rfl ⟨(by decide : (2 : Fin 6) ≠ 0), (by decide : (2 : Fin 6) ≠ 1)⟩ rfl rfl (off2_row c i) ((3, i) :: chunksYZ l rest) _ Q) $$ [Hs Hd HO Ht Ht']
  · isplitr; · iexact HR
    isplitl [Hs]; · iexact Hs
    isplitl [Hd]; · iexact Hd
    isplitl [HO]; · iexact HO
    isplitl [Ht] <;> iassumption
  iintro ⟨Hc1, HO⟩
  iapply (start_o σ m K c (zn c) (3, i) rfl ⟨(by decide : (3 : Fin 6) ≠ 0), (by decide : (3 : Fin 6) ≠ 1)⟩ rfl rfl (off2_row c i) (chunksYZ l rest) _ Q) $$ [Hs2 Hd2 HO Ht2 Ht2']
  · isplitr; · iexact HR
    isplitl [Hs2]; · iexact Hs2
    isplitl [Hd2]; · iexact Hd2
    isplitl [HO]; · iexact HO
    isplitl [Ht2] <;> iassumption
  iintro ⟨Hc2, HO⟩
  iapply Hk
  isplitl [HO]
  · isplitr; · iexact HR
    isplitr; · iexact Hlev
    iexact HO
  isplitl [Hz]; · iexact Hz
  isplitl [Hc1] <;> iassumption

/-! ## Waits over a list -/

theorem phase_zy (c : Dev nD) (rest : List T) (hr : ∀ t ∈ rest, 3 < lvF t.1) (l : List (Fin 16)) (k : KP F) (Q : PUnit → sProp 𝕄) :
    iprop((records σ m K ∗ levAts L lv ∗ owesAny σ c rest) ∗ each (fun i => iprop(due (F := F) true (3, i) c ∗ due (F := F) true (2, i) c)) l)
      ⊢ iprop((((records σ m K ∗ levAts L lv ∗ owesAny σ c rest) ∗ each (fun i => iprop(got σ m true (3, i) c ∗ got σ m true (2, i) c)) l) -∗ runs c k Q)
          -∗ runs c (overP (recvZY c) l k) Q) := by
  refine over_list c (recvZY c) (fun _ => iprop(records σ m K ∗ levAts L lv ∗ owesAny σ c rest)) _ _ Q (fun i l k => ?_) l k
  iintro ⟨⟨#HR, #Hlev, HO⟩, ⟨Hc, Hat⟩, Hc2, Hat2⟩ Hk
  iapply (wait_cell σ m K c true (3, i) rfl rest (by rw [lv_land]; exact hr) rfl _ Q) $$ [Hc Hat HO]
  · isplitr; · iexact HR
    isplitr; · iexact Hlev
    isplitl [Hc]; · iexact Hc
    isplitl [Hat] <;> iassumption
  iintro ⟨Hz, Hp, HO⟩
  iapply (wait_cell σ m K c true (2, i) rfl rest (by rw [lv_land]; exact hr) rfl _ Q) $$ [Hc2 Hat2 HO]
  · isplitr; · iexact HR
    isplitr; · iexact Hlev
    isplitl [Hc2]; · iexact Hc2
    isplitl [Hat2] <;> iassumption
  iintro ⟨Hz2, Hp2, HO⟩
  iapply Hk
  isplitl [HO]
  · isplitr; · iexact HR
    isplitr; · iexact Hlev
    iexact HO
  isplitl [Hz Hp]
  · isplitl [Hz] <;> iassumption
  isplitl [Hz2] <;> iassumption

/-- A wait with what it takes and leaves bundled. -/
theorem wait_got (c : Dev nD) (b : Bool) (t : T) (hu : used t = true) (rest : List T) (hl : ∀ s ∈ rest, lv (cell b t c) () < lvF s.1)
    {s : Shape} {src dst : Memref sig .tc .hbm s .f32} (hN : dst.view.dmaCredit = Nn (len t.1)) (k : KP F) (Q : PUnit → sProp 𝕄) :
    iprop((records σ m K ∗ levAts L lv ∗ owesAny σ c rest) ∗ due (F := F) b t c)
      ⊢ iprop((((records σ m K ∗ levAts L lv ∗ owesAny σ c rest) ∗ got σ m b t c) -∗ runs c k Q) -∗ runs c (waitP (dsem b t) src dst k) Q) := by
  iintro ⟨⟨#HR, #Hlev, HO⟩, Hc, Hat⟩ Hk
  iapply (wait_cell σ m K c b t hu rest hl hN _ Q) $$ [Hc Hat HO]
  · isplitr; · iexact HR
    isplitr; · iexact Hlev
    isplitl [Hc]; · iexact Hc
    isplitl [Hat] <;> iassumption
  iintro ⟨Hz, Hp, HO⟩
  iapply Hk
  isplitl [HO]
  · isplitr; · iexact HR
    isplitr; · iexact Hlev
    iexact HO
  isplitl [Hz] <;> iassumption

/-- All sends of a row have left. -/
theorem phase_left (c : Dev nD) (f : Fin 6) (hu : ∀ i, used (f, i) = true) (src dst : Fin 16 → Memref sig .tc .hbm (Rw 32) .f32)
    (hN : ∀ i, (dst i).view.dmaCredit = Nn (len f)) (l : List (Fin 16)) (k : KP F) (Q : PUnit → sProp 𝕄) :
    iprop((records σ m K ∗ levAts L lv ∗ owesAny σ c []) ∗ each (fun i => due (F := F) false (f, i) c) l)
      ⊢ iprop((((records σ m K ∗ levAts L lv ∗ owesAny σ c []) ∗ each (fun i => got σ m false (f, i) c) l) -∗ runs c k Q)
          -∗ runs c (overP (fun i k => waitP (sSem f i) (src i) (dst i) k) l k) Q) :=
  over_list c _ (fun _ => iprop(records σ m K ∗ levAts L lv ∗ owesAny σ c [])) _ _ Q
    (fun i l k => wait_got σ m K c false (f, i) (hu i) [] (fun s hs => absurd hs List.not_mem_nil) (hN i) k Q) l k

end Cert.KernelIdealProof

end
-- ==== Proof.KernelIdealBody.lean ====
/-
# The body past the table's word

From the whole input and output blocks to the whole blocks, the output block's contents final and every counter of the
exchange back at zero.
-/
module

public import proofs.«01_k».proof.Proof.KernelIdealPhases

@[expose] public section

noncomputable section

namespace Cert.KernelIdealProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Swap) (m : (ℓ : Loc nD τ sig) → Buf (Elt F) ℓ) (K : Dev nD × Kd → ℕ)

/-- What runs through the copies: the records, the levels and what is still owed. -/
abbrev ctx (c : Dev nD) (l : List T) : sProp 𝕄 := iprop(records σ m K ∗ levAts L lv ∗ owesAny (F := F) σ c l)

/-! ## The last waits -/

theorem drain_runs (c : Dev nD) (Q : PUnit → sProp 𝕄) :
    iprop(ctx σ m K c [] ∗ (due (F := F) true (1, 0) c ∗ due (F := F) true (4, 0) c ∗ due (F := F) true (5, 0) c)
        ∗ (each (fun i => due (F := F) false (0, i) c) all16 ∗ each (fun i => due (F := F) false (2, i) c) all16 ∗ each (fun i => due (F := F) false (3, i) c) all16)
        ∗ due (F := F) false (1, 0) c ∗ due (F := F) false (4, 0) c ∗ due (F := F) false (5, 0) c)
      ⊢ iprop(((ctx σ m K c [] ∗ (got σ m true (1, 0) c ∗ got σ m true (4, 0) c ∗ got σ m true (5, 0) c)
          ∗ (each (fun i => got σ m false (0, i) c) all16 ∗ each (fun i => got σ m false (2, i) c) all16 ∗ each (fun i => got σ m false (3, i) c) all16)
          ∗ got σ m false (1, 0) c ∗ got σ m false (4, 0) c ∗ got σ m false (5, 0) c) -∗ Q ⟨⟩) -∗ runs c (drainP c) Q) := by
  have none_left {n : ℕ} : ∀ s ∈ ([] : List T), n < lvF s.1 := fun s hs => absurd hs List.not_mem_nil
  iintro ⟨HC, ⟨D1, D4, D5⟩, ⟨E0, E2, E3⟩, F1, F4, F5⟩ Hk
  unfold drainP
  iapply (wait_got σ m K c true (1, 0) rfl [] none_left rfl _ Q) $$ [HC D1]
  · isplitl [HC] <;> iassumption
  iintro ⟨HC, D1⟩
  iapply (wait_got σ m K c true (4, 0) rfl [] none_left rfl _ Q) $$ [HC D4]
  · isplitl [HC] <;> iassumption
  iintro ⟨HC, D4⟩
  iapply (wait_got σ m K c true (5, 0) rfl [] none_left rfl _ Q) $$ [HC D5]
  · isplitl [HC] <;> iassumption
  iintro ⟨HC, D5⟩
  iapply (phase_left σ m K c 0 (fun _ => rfl) (fun i => own c oM i) (fun i => own c xM i) (fun _ => rfl) all16 _ Q) $$ [HC E0]
  · isplitl [HC] <;> iassumption
  iintro ⟨HC, E0⟩
  iapply (phase_left σ m K c 2 (fun _ => rfl) (fun i => own c oM i) (fun i => own c oM i) (fun _ => rfl) all16 _ Q) $$ [HC E2]
  · isplitl [HC] <;> iassumption
  iintro ⟨HC, E2⟩
  iapply (phase_left σ m K c 3 (fun _ => rfl) (fun i => own c oM i) (fun i => own c oM i) (fun _ => rfl) all16 _ Q) $$ [HC E3]
  · isplitl [HC] <;> iassumption
  iintro ⟨HC, E3⟩
  iapply (wait_got σ m K c false (1, 0) rfl [] none_left rfl _ Q) $$ [HC F1]
  · isplitl [HC] <;> iassumption
  iintro ⟨HC, F1⟩
  iapply (wait_got σ m K c false (4, 0) rfl [] none_left rfl _ Q) $$ [HC F4]
  · isplitl [HC] <;> iassumption
  iintro ⟨HC, F4⟩
  iapply (wait_got σ m K c false (5, 0) rfl [] none_left rfl _ Q) $$ [HC F5]
  · isplitl [HC] <;> iassumption
  iintro ⟨HC, F5⟩
  unfold runs
  rw [wp_ret]
  imodintro
  iapply Hk
  isplitl [HC]; · iexact HC
  isplitl [D1 D4 D5]
  · isplitl [D1]; · iexact D1
    isplitl [D4] <;> iassumption
  isplitl [E0 E2 E3]
  · isplitl [E0]; · iexact E0
    isplitl [E2] <;> iassumption
  isplitl [F1]; · iexact F1
  isplitl [F4] <;> iassumption

/-! ## The chunks of the two other quadrants -/

omit [FloatOps F] in
/-- Counters apart from rows. -/
theorem each_apart (A B C D : Fin 16 → sProp 𝕄) (l : List (Fin 16)) :
    each (fun i => iprop((A i ∗ B i) ∗ C i ∗ D i)) l ⊢ iprop(each (fun i => iprop(A i ∗ C i)) l ∗ each B l ∗ each D l) := by
  rw [each_sep_eq (fun i => iprop(A i ∗ B i)) (fun i => iprop(C i ∗ D i)), each_sep_eq A B, each_sep_eq C D, each_sep_eq A C]
  iintro ⟨⟨HA, HB⟩, HC, HD⟩
  isplitl [HA HC]
  · isplitl [HA] <;> iassumption
  isplitl [HB] <;> iassumption

/-- Chunks landed from `k` on are one run of rows. -/
theorem landed_z (c : Dev nD) (l : List (Fin 16)) (k : ℕ) (h : l.map Fin.val = List.range' k l.length) :
    each (fun i => pay σ m true (3, i) c) l = oRun fullShare c (512 * ((zn c).val % 4) + 32 * k) (32 * l.length) (fin σ m c) :=
  run_chunks (rO c) fullShare (fin σ m c) (512 * ((zn c).val % 4)) l k h
theorem landed_y (c : Dev nD) (l : List (Fin 16)) (k : ℕ) (h : l.map Fin.val = List.range' k l.length) :
    each (fun i => pay σ m true (2, i) c) l = oRun fullShare c (512 * ((yn c).val % 4) + 32 * k) (32 * l.length) (fin σ m c) :=
  run_chunks (rO c) fullShare (fin σ m c) (512 * ((yn c).val % 4)) l k h

theorem pay_z10 (c : Dev nD) : pay σ m true (3, 10) c = oRun fullShare c (512 * ((zn c).val % 4) + 320) 32 (fin σ m c) := rfl
theorem pay_y10 (c : Dev nD) : pay σ m true (2, 10) c = oRun fullShare c (512 * ((yn c).val % 4) + 320) 32 (fin σ m c) := rfl
theorem src_z (c : Dev nD) : sendPay σ m (4, 0) c = oRun fullShare c (512 * ((zn c).val % 4) + 176) 168 (fin σ m c) := rfl
theorem src_y (c : Dev nD) : sendPay σ m (5, 0) c = oRun fullShare c (512 * ((yn c).val % 4) + 344) 168 (fin σ m c) := rfl

section Cuts
variable {ℓ : Loc nD τ sig} (r : Idx ℓ → ℕ) (q : PosShare TreeShare) (f : Buf (Elt F) ℓ) (a : ℕ)
omit [FloatOps F] in
theorem cut_z : iprop(run r q a 320 f ∗ run r q (a + 320) 32 f) = iprop(run r q a 176 f ∗ run r q (a + 176) 168 f ∗ run r q (a + 344) 8 f) := by
  rw [← run_add r q f a 320 32, show 320 + 32 = 176 + (168 + 8) by rfl, run_add, run_add, show a + 176 + 168 = a + 344 by omega]
omit [FloatOps F] in
theorem cut_z' : iprop(run r q (a + 344) 8 f ∗ run r q (a + 352) 160 f) = run r q (a + 344) 168 f := by
  rw [show a + 352 = a + 344 + 8 by omega, ← run_add]
omit [FloatOps F] in
theorem cut_y : iprop(run r q a 320 f ∗ run r q (a + 320) 32 f ∗ run r q (a + 352) 160 f) = iprop(run r q a 344 f ∗ run r q (a + 344) 168 f) := by
  rw [show a + 352 = a + 320 + 32 by omega, ← run_add, ← run_add, ← run_add]
omit [FloatOps F] in
theorem join_z : iprop(run r q a 176 f ∗ run r q (a + 176) 168 f ∗ run r q (a + 344) 168 f) = run r q a 512 f := (run_thirds r q f a).symm
omit [FloatOps F] in
theorem join_y : iprop(run r q a 344 f ∗ run r q (a + 344) 168 f) = run r q a 512 f := by rw [← run_add]
end Cuts

theorem turn_runs (c : Dev nD) (Q : PUnit → sProp 𝕄) :
    iprop(ctx σ m K c [(4, 0), (5, 0)] ∗ each (fun i => iprop(due (F := F) true (3, i) c ∗ due (F := F) true (2, i) c)) all16
        ∗ arm (F := F) σ (4, 0) c ∗ arm (F := F) σ (5, 0) c)
      ⊢ iprop(((ctx σ m K c [] ∗ each (fun i => iprop(zeroed (F := F) true (3, i) c ∗ zeroed (F := F) true (2, i) c)) all16
          ∗ (credOf (F := F) false (4, 0) c ∗ credOf (F := F) false (5, 0) c)
          ∗ oRun fullShare c (512 * ((zn c).val % 4)) 176 (fin σ m c) ∗ oRun fullShare c (512 * ((zn c).val % 4) + 344) 168 (fin σ m c)
          ∗ oRun fullShare c (512 * ((yn c).val % 4)) 344 (fin σ m c)) -∗ runs c (drainP c) Q)
        -∗ runs c (turnP c (yn c) (zn c)) Q) := by
  have hall : all16 = lo10 ++ 10 :: hi5 := rfl
  have h45 : ∀ s ∈ [((4, 0) : T), (5, 0)], 3 < lvF s.1 := by decide
  have h5 : ∀ s ∈ [((5, 0) : T)], 3 < lvF s.1 := by decide
  iintro ⟨HC, HD, ⟨Hd4, Ht4, Ht4'⟩, Hd5, Ht5, Ht5'⟩ Hk
  rw [hall]
  ihave HD' := ((each_append _ lo10 (10 :: hi5)).1) $$ HD
  icases HD' with ⟨HL, HM⟩
  ihave HM' := (Entails.of_eq (each_cons _ 10 hi5)) $$ HM
  icases HM' with ⟨⟨Z10, Y10⟩, HH⟩
  unfold turnP
  iapply (phase_zy σ m K c [(4, 0), (5, 0)] h45 lo10 _ Q) $$ [HC HL]
  · isplitl [HC] <;> iassumption
  iintro ⟨HC, HL⟩
  ihave HL' := (each_apart (F := F) _ _ _ _ lo10) $$ HL
  icases HL' with ⟨HL, ZL, YL⟩
  ihave ZL' := (Entails.of_eq (landed_z σ m c lo10 0 (by decide))) $$ ZL
  ihave YL' := (Entails.of_eq (landed_y σ m c lo10 0 (by decide))) $$ YL
  iapply (wait_got σ m K c true (3, 10) rfl [(4, 0), (5, 0)] (by rw [lv_land]; exact h45) rfl _ Q) $$ [HC Z10]
  · isplitl [HC] <;> iassumption
  iintro ⟨HC, Z10, ZP⟩
  ihave HZ := (Entails.of_eq (cut_z (rO c) fullShare (fin σ m c) (512 * ((zn c).val % 4)))) $$ [ZL' ZP]
  · isplitl [ZL']; · iexact ZL'
    iapply (Entails.of_eq (pay_z10 σ m c)); iexact ZP
  icases HZ with ⟨Z1, Z2, Z3⟩
  icases HC with ⟨#HR, #Hlev, HO⟩
  iapply (start_o σ m K c (yn c) (4, 0) rfl ⟨(by decide : (4 : Fin 6) ≠ 0), (by decide : (4 : Fin 6) ≠ 1)⟩ rfl rfl (off6_row c) [(5, 0)] _ Q) $$ [Z2 Hd4 HO Ht4 Ht4']
  · isplitr; · iexact HR
    isplitl [Z2]; · iapply (Entails.of_eq (src_z σ m c).symm); iexact Z2
    isplitl [Hd4]; · iexact Hd4
    isplitl [HO]; · iexact HO
    isplitl [Ht4] <;> iassumption
  iintro ⟨HC4, HO⟩
  iapply (wait_got σ m K c true (2, 10) rfl [(5, 0)] (by rw [lv_land]; exact h5) rfl _ Q) $$ [HO Y10]
  · isplitl [HO]
    · isplitr; · iexact HR
      isplitr; · iexact Hlev
      iexact HO
    iexact Y10
  iintro ⟨HC, Y10, YP⟩
  iapply (phase_zy σ m K c [(5, 0)] h5 hi5 _ Q) $$ [HC HH]
  · isplitl [HC] <;> iassumption
  iintro ⟨HC, HH⟩
  ihave HH' := (each_apart (F := F) _ _ _ _ hi5) $$ HH
  icases HH' with ⟨HH, ZH, YH⟩
  ihave ZH' := (Entails.of_eq (landed_z σ m c hi5 11 (by decide))) $$ ZH
  ihave YH' := (Entails.of_eq (landed_y σ m c hi5 11 (by decide))) $$ YH
  ihave HZ := (Entails.of_eq (cut_z' (rO c) fullShare (fin σ m c) (512 * ((zn c).val % 4)))) $$ [Z3 ZH']
  · isplitl [Z3]; · iexact Z3
    iexact ZH'
  ihave HY := (Entails.of_eq (cut_y (rO c) fullShare (fin σ m c) (512 * ((yn c).val % 4)))) $$ [YL' YP YH']
  · isplitl [YL']; · iexact YL'
    isplitl [YP]; · iapply (Entails.of_eq (pay_y10 σ m c)); iexact YP
    iexact YH'
  icases HY with ⟨Y1, Y2⟩
  icases HC with ⟨-, -, HO⟩
  iapply (start_o σ m K c (zn c) (5, 0) rfl ⟨(by decide : (5 : Fin 6) ≠ 0), (by decide : (5 : Fin 6) ≠ 1)⟩ rfl rfl (off7_row c) [] _ Q) $$ [Y2 Hd5 HO Ht5 Ht5']
  · isplitr; · iexact HR
    isplitl [Y2]; · iapply (Entails.of_eq (src_y σ m c).symm); iexact Y2
    isplitl [Hd5]; · iexact Hd5
    isplitl [HO]; · iexact HO
    isplitl [Ht5] <;> iassumption
  iintro ⟨HC5, HO⟩
  iapply Hk
  isplitl [HO]
  · isplitr; · iexact HR
    isplitr; · iexact Hlev
    iexact HO
  isplitl [HL Z10 Y10 HH]
  · iapply ((each_append _ lo10 (10 :: hi5)).2)
    isplitl [HL]; · iexact HL
    iapply (Entails.of_eq (each_cons _ 10 hi5).symm)
    isplitl [Z10 Y10]
    · isplitl [Z10] <;> iassumption
    iexact HH
  isplitl [HC4 HC5]
  · isplitl [HC4] <;> iassumption
  isplitl [Z1]; · iexact Z1
  isplitl [HZ]; · iexact HZ
  iexact Y1

/-! ## The blocks, taken apart and put together -/

theorem pay_send (t : T) (c : Dev nD) : pay σ m false t c = sendPay σ m t c := rfl

/-- The rows of the input block that no transfer reads. -/
def xRest (c : Dev nD) : sProp 𝕄 :=
  iprop(xRun m c (512 * ((yn c).val % 4)) 512 ∗ xRun m c (512 * ((zn c).val % 4)) 512
    ∗ xRun m c (512 * (3 - c.val % 4) + 176) 168 ∗ xRun m c (512 * (3 - c.val % 4) + 344) 168)

theorem x_apart (c : Dev nD) : xRun m c 0 2048 ⊣⊢ iprop(each (fun i => sendPay σ m (0, i) c) all16 ∗ sendPay σ m (1, 0) c ∗ xRest m c) := by
  have h : xRun m c 0 2048 = iprop(each (fun i => sendPay σ m (0, i) c) all16 ∗ xRun m c (512 * ((yn c).val % 4)) 512 ∗ xRun m c (512 * ((zn c).val % 4)) 512
      ∗ sendPay σ m (1, 0) c ∗ xRun m c (512 * (3 - c.val % 4) + 176) 168 ∗ xRun m c (512 * (3 - c.val % 4) + 344) 168) := by
    show run (rX c) fullShare 0 2048 (xBlk m c) = _
    rw [run_block (rX c) fullShare (xBlk m c) c, run_thirds _ _ _ (512 * (3 - c.val % 4)), ← run_quadrant _ _ _ (512 * (c.val % 4))]
    rfl
  unfold xRest
  rw [h]
  constructor
  · iintro ⟨H1, H2, H3, H4, H5, H6⟩
    isplitl [H1]; · iexact H1
    isplitl [H4]; · iexact H4
    isplitl [H2]; · iexact H2
    isplitl [H3]; · iexact H3
    isplitl [H5] <;> iassumption
  · iintro ⟨H1, H4, H2, H3, H5, H6⟩
    isplitl [H1]; · iexact H1
    isplitl [H2]; · iexact H2
    isplitl [H3]; · iexact H3
    isplitl [H4]; · iexact H4
    isplitl [H5] <;> iassumption

/-- The chunks passed on, both halves back, are the device's own quadrant. -/
theorem own_back (c : Dev nD) : iprop(each (fun i => sendPay σ m (2, i) c) all16 ∗ each (fun i => sendPay σ m (3, i) c) all16)
    ⊢ oRun fullShare c (512 * (c.val % 4)) 512 (fin σ m c) := by
  have h : ∀ i : Fin 16, iprop(sendPay σ m (2, i) c ∗ sendPay σ m (3, i) c) = oRun fullShare c (512 * (c.val % 4) + 32 * i.val) 32 (fin σ m c) :=
    fun i => (run_halves (rO c) fullShare (fin σ m c) _ 32).symm
  rw [← each_sep_eq, each_congr h]
  exact Entails.of_eq (run_quadrant (rO c) fullShare (fin σ m c) (512 * (c.val % 4)))

theorem diag_back (c : Dev nD) : iprop(pay σ m true (1, 0) c ∗ pay σ m true (4, 0) c ∗ pay σ m true (5, 0) c)
    = oRun fullShare c (512 * (3 - c.val % 4)) 512 (fin σ m c) := by
  show iprop(recvPay σ m (1, 0) c ∗ recvPay σ m (4, 0) c ∗ recvPay σ m (5, 0) c) = _
  unfold recvPay
  rw [land_xe, land_yd, land_zd]
  exact join_z (rO c) fullShare (fin σ m c) (512 * (3 - c.val % 4))

theorem out_back (c : Dev nD) :
    iprop((each (fun i => sendPay σ m (2, i) c) all16 ∗ each (fun i => sendPay σ m (3, i) c) all16)
        ∗ (oRun fullShare c (512 * ((yn c).val % 4)) 344 (fin σ m c) ∗ sendPay σ m (5, 0) c)
        ∗ (oRun fullShare c (512 * ((zn c).val % 4)) 176 (fin σ m c) ∗ sendPay σ m (4, 0) c ∗ oRun fullShare c (512 * ((zn c).val % 4) + 344) 168 (fin σ m c))
        ∗ pay σ m true (1, 0) c ∗ pay σ m true (4, 0) c ∗ pay σ m true (5, 0) c)
      ⊢ oRun fullShare c 0 2048 (fin σ m c) := by
  rw [diag_back, src_z, src_y]
  show _ ⊢ run (rO c) fullShare 0 2048 (fin σ m c)
  rw [run_block (rO c) fullShare (fin σ m c) c]
  iintro ⟨H1, H2, H3, H4⟩
  isplitl [H1]; · iapply (own_back σ m c); iexact H1
  isplitl [H2]; · iapply (Entails.of_eq (join_y (rO c) fullShare (fin σ m c) (512 * ((yn c).val % 4)))); iexact H2
  isplitl [H3]; · iapply (Entails.of_eq (join_z (rO c) fullShare (fin σ m c) (512 * ((zn c).val % 4)))); iexact H3
  iexact H4

/-! ## The whole -/

/-- One proposition for every transfer the body makes. -/
def six (Φ : T → sProp 𝕄) : sProp 𝕄 :=
  iprop((each (fun i => Φ (0, i)) all16 ∗ each (fun i => Φ (2, i)) all16 ∗ each (fun i => Φ (3, i)) all16) ∗ Φ (1, 0) ∗ Φ (4, 0) ∗ Φ (5, 0))

omit [FloatOps F] in
theorem six_pair (Φ Ψ : T → sProp 𝕄) : iprop(six Φ ∗ six Ψ) ⊢ six (fun t => iprop(Φ t ∗ Ψ t)) := by
  unfold six
  rw [each_sep_eq, each_sep_eq, each_sep_eq]
  iintro ⟨⟨⟨H0, H2, H3⟩, H1, H4, H5⟩, ⟨G0, G2, G3⟩, G1, G4, G5⟩
  isplitl [H0 H2 H3 G0 G2 G3]
  · isplitl [H0 G0]; · isplitl [H0] <;> iassumption
    isplitl [H2 G2]; · isplitl [H2] <;> iassumption
    isplitl [H3] <;> iassumption
  isplitl [H1 G1]; · isplitl [H1] <;> iassumption
  isplitl [H4 G4]; · isplitl [H4] <;> iassumption
  isplitl [H5] <;> iassumption

omit [FloatOps F] in
theorem six_apart (Φ Ψ : T → sProp 𝕄) : six (fun t => iprop(Φ t ∗ Ψ t)) ⊢ iprop(six Φ ∗ six Ψ) := by
  unfold six
  rw [each_sep_eq, each_sep_eq, each_sep_eq]
  iintro ⟨⟨⟨H0, G0⟩, ⟨H2, G2⟩, H3, G3⟩, ⟨H1, G1⟩, ⟨H4, G4⟩, H5, G5⟩
  isplitl [H0 H2 H3 H1 H4 H5]
  · isplitl [H0 H2 H3]
    · isplitl [H0]; · iexact H0
      isplitl [H2] <;> iassumption
    isplitl [H1]; · iexact H1
    isplitl [H4] <;> iassumption
  · isplitl [G0 G2 G3]
    · isplitl [G0]; · iexact G0
      isplitl [G2] <;> iassumption
    isplitl [G1]; · iexact G1
    isplitl [G4] <;> iassumption

/-- The neighbours' rows, by transfer. -/
theorem spares (c : Dev nD) : iprop(barPay (F := F) σ 0 c ∗ barPay (F := F) σ 1 c ∗ barPay (F := F) σ 2 c) ⊢ six (fun t => spare (F := F) (peer σ t c) t c) := by
  unfold barPay six
  rw [bigSep_all16, bigSep_all16, bigSep_all16]
  iintro ⟨⟨H0, H1⟩, ⟨H2, H4⟩, H3, H5⟩
  isplitl [H0 H2 H3]
  · isplitl [H0]; · iexact H0
    isplitl [H2]; · iexact H2
    iexact H3
  isplitl [H1]; · iexact H1
  isplitl [H4]; · iexact H4
  iexact H5

/-- From the barrier's end on. -/
theorem copies_runs (c : Dev nD) (Q : PUnit → sProp 𝕄) :
    iprop(ctx σ m K c order ∗ six (fun t => arm (F := F) σ t c) ∗ six (fun t => due (F := F) true t c) ∗ six (fun t => atZero (F := F) false t c) ∗ xRun m c 0 2048)
      ⊢ iprop(((ctx σ m K c [] ∗ six (fun t => zeroed (F := F) true t c) ∗ six (fun t => zeroed (F := F) false t c) ∗ xRun m c 0 2048
          ∗ oRun fullShare c 0 2048 (fin σ m c)) -∗ Q ⟨⟩) -∗ runs c (copiesP c (σ.tgt c) (yn c) (zn c)) Q) := by
  unfold six
  iintro ⟨⟨#HR, #Hlev, HO⟩, ⟨⟨A0, A2, A3⟩, ⟨S1, T1, T1'⟩, A4, A5⟩, ⟨⟨D0, D2, D3⟩, D1, D4, D5⟩, ⟨⟨P0, P2, P3⟩, P1, P4, P5⟩, HX⟩ Hk
  ihave HX' := ((x_apart σ m c).1) $$ HX
  icases HX' with ⟨X0, X1, XR⟩
  unfold copiesP
  -- the chunks along x
  iapply (phase_x σ m K c ((1, 0) :: chunksYZ all16 [(4, 0), (5, 0)]) all16 _ Q) $$ [HO X0 A0]
  · isplitl [HO]
    · isplitr; · iexact HR
      iexact HO
    iapply ((each_sep _ _ all16).2)
    isplitl [X0] <;> iassumption
  iintro ⟨⟨-, HO⟩, C0⟩
  -- the diagonal piece along x
  iapply (start_x σ m K c (σ.tgt c) (1, 0) rfl (Or.inr rfl) rfl rfl (off3_row c) (chunksYZ all16 [(4, 0), (5, 0)]) _ Q) $$ [X1 S1 HO T1 T1']
  · isplitr; · iexact HR
    isplitl [X1]; · iexact X1
    isplitl [S1]; · iexact S1
    isplitl [HO]; · iexact HO
    isplitl [T1] <;> iassumption
  iintro ⟨C1, HO⟩
  -- the chunks passed on
  iapply (phase_yz σ m K c [(4, 0), (5, 0)] (by decide) all16 _ Q) $$ [HO D0 A2 A3]
  · isplitl [HO]
    · isplitr; · iexact HR
      isplitr; · iexact Hlev
      iexact HO
    iapply ((each_sep _ _ all16).2)
    isplitl [D0]; · iexact D0
    iapply ((each_sep _ _ all16).2)
    isplitl [A2] <;> iassumption
  iintro ⟨HC, HB⟩
  ihave HB' := ((each_sep _ _ all16).1) $$ HB
  icases HB' with ⟨Z0, HB⟩
  ihave HB' := ((each_sep _ _ all16).1) $$ HB
  icases HB' with ⟨C2, C3⟩
  -- the chunks of the other two quadrants
  iapply (turn_runs σ m K c Q) $$ [HC D2 D3 A4 A5]
  · isplitl [HC]; · iexact HC
    isplitl [D2 D3]
    · iapply ((each_sep _ _ all16).2)
      isplitl [D3] <;> iassumption
    isplitl [A4] <;> iassumption
  iintro ⟨HC, HZ, ⟨C4, C5⟩, R1, R2, R3⟩
  ihave HZ' := ((each_sep _ _ all16).1) $$ HZ
  icases HZ' with ⟨Z3, Z2⟩
  -- the last waits
  iapply (drain_runs σ m K c Q) $$ [HC D1 D4 D5 C0 C1 C2 C3 C4 C5 P0 P1 P2 P3 P4 P5]
  · isplitl [HC]; · iexact HC
    isplitl [D1 D4 D5]
    · isplitl [D1]; · iexact D1
      isplitl [D4] <;> iassumption
    isplitl [C0 C2 C3 P0 P2 P3]
    · isplitl [C0 P0]
      · iapply ((each_sep _ _ all16).2)
        isplitl [C0] <;> iassumption
      isplitl [C2 P2]
      · iapply ((each_sep _ _ all16).2)
        isplitl [C2] <;> iassumption
      iapply ((each_sep _ _ all16).2)
      isplitl [C3] <;> iassumption
    isplitl [C1 P1]; · isplitl [C1] <;> iassumption
    isplitl [C4 P4]; · isplitl [C4] <;> iassumption
    isplitl [C5] <;> iassumption
  iintro ⟨HC, ⟨⟨Z1, V1⟩, ⟨Z4, V4⟩, Z5, V5⟩, ⟨G0, G2, G3⟩, ⟨Y1, X1⟩, ⟨Y4, W4⟩, Y5, W5⟩
  ihave G0' := ((each_sep _ _ all16).1) $$ G0
  icases G0' with ⟨Y0, X0⟩
  ihave G2' := ((each_sep _ _ all16).1) $$ G2
  icases G2' with ⟨Y2, W2⟩
  ihave G3' := ((each_sep _ _ all16).1) $$ G3
  icases G3' with ⟨Y3, W3⟩
  iapply Hk
  isplitl [HC]; · iexact HC
  isplitl [Z0 Z1 Z2 Z3 Z4 Z5]
  · isplitl [Z0 Z2 Z3]
    · isplitl [Z0]; · iexact Z0
      isplitl [Z2] <;> iassumption
    isplitl [Z1]; · iexact Z1
    isplitl [Z4] <;> iassumption
  isplitl [Y0 Y1 Y2 Y3 Y4 Y5]
  · isplitl [Y0 Y2 Y3]
    · isplitl [Y0]; · iexact Y0
      isplitl [Y2] <;> iassumption
    isplitl [Y1]; · iexact Y1
    isplitl [Y4] <;> iassumption
  isplitl [X0 X1 XR]
  · iapply ((x_apart σ m c).2)
    isplitl [X0]; · iexact X0
    isplitl [X1]; · iapply (Entails.of_eq (pay_send σ m (1, 0) c)); iexact X1
    iexact XR
  iapply (out_back σ m c)
  isplitl [W2 W3]
  · isplitl [W2]; · iexact W2
    iexact W3
  isplitl [R3 W5]
  · isplitl [R3]; · iexact R3
    iapply (Entails.of_eq (pay_send σ m (5, 0) c)); iexact W5
  isplitl [R1 R2 W4]
  · isplitl [R1]; · iexact R1
    isplitl [W4]; · iapply (Entails.of_eq (pay_send σ m (4, 0) c)); iexact W4
    iexact R2
  isplitl [V1]; · iexact V1
  isplitl [V4]; · iexact V4
  iexact V5

/-- The whole body past the table's word. -/
theorem rest_runs (c : Dev nD) (f : Buf (Elt F) ((c : Thread nD τ).loc main_v1)) (W : Waits sig Unit) (Q : PUnit → sProp 𝕄) :
    iprop(records σ m K ∗ levAts L lv ∗ (cred (tallyAt (barCell c) () 3) ∗ atPos ER (barCell c) 0 ∅ 0)
        ∗ (tokB (F := F) σ 0 c ∗ tokB (F := F) σ 1 c ∗ tokB (F := F) σ 2 c) ∗ six (fun t => iprop(tokL (F := F) t c ∗ tokR (F := F) σ t c))
        ∗ six (fun t => due (F := F) true t c) ∗ six (fun t => atZero (F := F) false t c)
        ∗ owes (c : Thread nD τ) (O₀ σ c) W ∗ xRun m c 0 2048 ∗ oRun (F := F) fullShare c 0 2048 f)
      ⊢ iprop(((owesAny (F := F) σ c [] ∗ semVal (barCell c) 0 ∗ six (fun t => zeroed (F := F) true t c) ∗ six (fun t => zeroed (F := F) false t c)
          ∗ xRun m c 0 2048 ∗ oRun fullShare c 0 2048 (fin σ m c)) -∗ Q ⟨⟩)
        -∗ runs c (restP c (σ.tgt c) (yn c) (zn c)) Q) := by
  iintro ⟨#HR, #Hlev, ⟨Hc, Hat⟩, ⟨Ht0, Ht1, Ht2⟩, HT, HD, HP, HO, HX, Hout⟩ Hk
  unfold restP
  iapply (barrier σ m K c f W (copiesP c (σ.tgt c) (yn c) (zn c)) Q) $$ [Hc Hat Ht0 Ht1 Ht2 HO Hout]
  · isplitr; · iexact HR
    isplitr; · iexact Hlev
    isplitl [Hc]; · iexact Hc
    isplitl [Hat]; · iexact Hat
    isplitl [Ht0]; · iexact Ht0
    isplitl [Ht1]; · iexact Ht1
    isplitl [Ht2]; · iexact Ht2
    isplitl [HO] <;> iassumption
  iintro ⟨HO, Hz, HB⟩
  ihave HS := (spares (F := F) σ c) $$ HB
  ihave HA := (six_pair (F := F) (fun t => spare (F := F) (peer σ t c) t c) (fun t => iprop(tokL (F := F) t c ∗ tokR (F := F) σ t c))) $$ [HS HT]
  · isplitl [HS] <;> iassumption
  iapply (copies_runs σ m K c Q) $$ [HO HA HD HP HX]
  · isplitl [HO]
    · isplitr; · iexact HR
      isplitr; · iexact Hlev
      iexact HO
    isplitl [HA]; · iexact HA
    isplitl [HD]; · iexact HD
    isplitl [HP] <;> iassumption
  iintro ⟨⟨-, -, HO⟩, Z1, Z2, HX, HY⟩
  iapply Hk
  isplitl [HO]; · iexact HO
  isplitl [Hz]; · iexact Hz
  isplitl [Z1]; · iexact Z1
  isplitl [Z2]; · iexact Z2
  isplitl [HX] <;> iassumption

end Cert.KernelIdealProof

end
-- ==== Proof.KernelIdealDeal.lean ====
/-
# What the launch deals

The cells opened, every device's cells as one family over the whole tables; the duty tokens dealt to the devices that
pay them; the credit of what a device is owed; and the cells no transfer uses, closed at once.
-/
module

public import proofs.«01_k».proof.Proof.KernelIdealBody
public import proofs.«01_k».proof.Proof.Gen.KernelIdeal.Launch

@[expose] public section

noncomputable section

namespace Cert.KernelIdealProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Swap) (m : (ℓ : Loc nD τ sig) → Buf (Elt F) ℓ)

/-! ## The tables, whole: the transfers made and the places left over -/

/-- The columns of a row but its first. -/
def tail15 : List (Fin 16) := [1, 2, 3, 4, 5, 6, 7, 8, 9, 10, 11, 12, 13, 14, 15]
theorem all16_eq : all16 = 0 :: tail15 := rfl

/-- One proposition for every place no transfer uses. -/
def idle (Φ : T → sProp 𝕄) : sProp 𝕄 :=
  iprop(each (fun i => Φ (1, i)) tail15 ∗ each (fun i => Φ (4, i)) tail15 ∗ each (fun i => Φ (5, i)) tail15)

omit [FloatOps F] in
theorem whole_eq (Φ : T → sProp 𝕄) : bigSep Finset.univ Φ
    = iprop(each (fun i => Φ (0, i)) all16 ∗ (Φ (1, 0) ∗ each (fun i => Φ (1, i)) tail15) ∗ each (fun i => Φ (2, i)) all16 ∗ each (fun i => Φ (3, i)) all16
      ∗ (Φ (4, 0) ∗ each (fun i => Φ (4, i)) tail15) ∗ Φ (5, 0) ∗ each (fun i => Φ (5, i)) tail15) := by
  have h : ∀ f : Fin 6, (bigSep Finset.univ fun i => Φ (f, i)) = each (fun i => Φ (f, i)) all16 := fun f => bigSep_all16 _
  rw [bigSep_univ_prod, bigSep_univ_eq_bigSepL [0, 1, 2, 3, 4, 5] (by decide) (by decide)]
  show iprop((bigSep Finset.univ fun i => Φ (0, i)) ∗ (bigSep Finset.univ fun i => Φ (1, i)) ∗ (bigSep Finset.univ fun i => Φ (2, i))
    ∗ (bigSep Finset.univ fun i => Φ (3, i)) ∗ (bigSep Finset.univ fun i => Φ (4, i)) ∗ (bigSep Finset.univ fun i => Φ (5, i))) = _
  rw [h, h, h, h, h, h]
  rfl

omit [FloatOps F] in
theorem whole_apart (Φ : T → sProp 𝕄) : bigSep Finset.univ Φ ⊢ iprop(six Φ ∗ idle Φ) := by
  rw [whole_eq]; unfold six idle
  iintro ⟨H0, ⟨H1, I1⟩, H2, H3, ⟨H4, I4⟩, H5, I5⟩
  isplitl [H0 H1 H2 H3 H4 H5]
  · isplitl [H0 H2 H3]
    · isplitl [H0]; · iexact H0
      isplitl [H2] <;> iassumption
    isplitl [H1]; · iexact H1
    isplitl [H4] <;> iassumption
  isplitl [I1]; · iexact I1
  isplitl [I4] <;> iassumption
omit [FloatOps F] in
theorem whole_back (Φ : T → sProp 𝕄) : iprop(six Φ ∗ idle Φ) ⊢ bigSep Finset.univ Φ := by
  rw [whole_eq]; unfold six idle
  iintro ⟨⟨⟨H0, H2, H3⟩, H1, H4, H5⟩, I1, I4, I5⟩
  isplitl [H0]; · iexact H0
  isplitl [H1 I1]; · isplitl [H1] <;> iassumption
  isplitl [H2]; · iexact H2
  isplitl [H3]; · iexact H3
  isplitl [H4 I4]; · isplitl [H4] <;> iassumption
  isplitl [H5] <;> iassumption

omit [FloatOps F] in
theorem six_mono {Φ Ψ : T → sProp 𝕄} (h : ∀ t, used t = true → Φ t ⊢ Ψ t) : six Φ ⊢ six Ψ := by
  unfold six
  iintro ⟨⟨H0, H2, H3⟩, H1, H4, H5⟩
  isplitl [H0 H2 H3]
  · isplitl [H0]; · iapply (each_mono (fun i => h (0, i) rfl) all16); iexact H0
    isplitl [H2]; · iapply (each_mono (fun i => h (2, i) rfl) all16); iexact H2
    iapply (each_mono (fun i => h (3, i) rfl) all16); iexact H3
  isplitl [H1]; · iapply (h (1, 0) rfl); iexact H1
  isplitl [H4]; · iapply (h (4, 0) rfl); iexact H4
  iapply (h (5, 0) rfl); iexact H5

omit [FloatOps F] in
/-- An update at every column of a list, something known throughout. -/
theorem each_update {R : sProp 𝕄} [BI.Persistent R] {Φ Ψ : Fin 16 → sProp 𝕄} :
    ∀ (l : List (Fin 16)), (∀ i ∈ l, iprop(R ∗ Φ i) ⊢ |={Set.univ}=> Ψ i) → iprop(R ∗ each Φ l) ⊢ |={Set.univ}=> each Ψ l
  | [], _ => by unfold each; iintro -; imodintro; iempintro
  | i :: l, h => by
    have ih := each_update (R := R) (Φ := Φ) (Ψ := Ψ) l (fun j hj => h j (List.mem_cons_of_mem _ hj))
    have hi := h i List.mem_cons_self
    rw [each_cons, each_cons]
    iintro ⟨#HR, Hi, Hl⟩
    imod hi $$ [Hi] with Hi
    · isplitr; · iexact HR
      iexact Hi
    imod ih $$ [Hl] with Hl
    · isplitr; · iexact HR
      iexact Hl
    imodintro
    isplitl [Hi] <;> iassumption

/-- A cell no transfer uses closes where it stands. -/
theorem idle_cell (K : Dev nD × Kd → ℕ) (b : Bool) (t : T) (c : Dev nD) (h : used t = false) :
    iprop(records σ m K ∗ atZero b t c) ⊢ |={Set.univ}=> zeroed (F := F) b t c := by
  iintro ⟨#HR, Hat⟩
  ihave #HI := (records_inv σ m K (c, some (b, t))) $$ HR
  imod (Rounds.cell_close ER (xRd (F := F) σ m) (Set.mem_univ (K (c, some (b, t)))) (fun h => h) (R := 0) (duties_unused σ m b t c h)) $$ [Hat] with Hz
  · isplitr; · iexact HI
    iexact Hat
  imodintro
  iexact Hz

theorem idle_close (K : Dev nD × Kd → ℕ) (b : Bool) (c : Dev nD) :
    iprop(records σ m K ∗ idle (fun t => atZero (F := F) b t c)) ⊢ |={Set.univ}=> idle (fun t => zeroed (F := F) b t c) := by
  unfold idle
  iintro ⟨#HR, H1, H4, H5⟩
  imod (each_update (R := records σ m K) (Ψ := fun i => zeroed (F := F) b (1, i) c) tail15 (fun i hi => idle_cell σ m K b (1, i) c (by revert i; decide))) $$ [H1] with H1
  · isplitr; · iexact HR
    iexact H1
  imod (each_update (R := records σ m K) (Ψ := fun i => zeroed (F := F) b (4, i) c) tail15 (fun i hi => idle_cell σ m K b (4, i) c (by revert i; decide))) $$ [H4] with H4
  · isplitr; · iexact HR
    iexact H4
  imod (each_update (R := records σ m K) (Ψ := fun i => zeroed (F := F) b (5, i) c) tail15 (fun i hi => idle_cell σ m K b (5, i) c (by revert i; decide))) $$ [H5] with H5
  · isplitr; · iexact HR
    iexact H5
  imodintro
  isplitl [H1]; · iexact H1
  isplitl [H4] <;> iassumption

/-! ## Opening the cells -/

omit [FloatOps F] in
theorem bigSep_kd (Φ : Kd → sProp 𝕄) : bigSep Finset.univ Φ
    = iprop(Φ none ∗ (bigSep Finset.univ fun t : T => Φ (some (false, t))) ∗ bigSep Finset.univ fun t : T => Φ (some (true, t))) := by
  rw [bigSep_univ_equiv (Equiv.optionEquivSumPUnit (Bool × T)).symm Φ, bigSep_univ_sum,
    bigSep_univ_eq_bigSepL ([PUnit.unit] : List PUnit.{1}) (by decide) (by decide) (fun b : PUnit.{1} => Φ ((Equiv.optionEquivSumPUnit (Bool × T)).symm (Sum.inr b))),
    bigSep_univ_prod, bigSep_univ_eq_bigSepL [false, true] (by decide) (by decide)]
  show iprop(((bigSep Finset.univ fun t : T => Φ (some (false, t))) ∗ bigSep Finset.univ fun t : T => Φ (some (true, t))) ∗ Φ none) = _
  have h : iprop(((bigSep Finset.univ fun t : T => Φ (some (false, t))) ∗ bigSep Finset.univ fun t : T => Φ (some (true, t))) ∗ Φ none)
      ⊣⊢ iprop(Φ none ∗ (bigSep Finset.univ fun t : T => Φ (some (false, t))) ∗ bigSep Finset.univ fun t : T => Φ (some (true, t))) := sep_comm
  exact BI.equiv_iff.mp ⟨h.1, h.2⟩

def allCells : Finset (GSem nD τ sig) := Finset.univ.map ⟨kcell, kcell_injective⟩
def allToks : Finset (GSem nD τ sig × ℕ × Fin 3) :=
  Finset.univ.map ⟨fun p : (Dev nD × Kd) × Fin 3 => (kcell p.1, 0, p.2), fun p p' h =>
    Prod.ext (kcell_injective (congrArg Prod.fst h)) (congrArg (fun x : GSem nD τ sig × ℕ × Fin 3 => x.2.2) h)⟩

def u₀ : UU := (initOf (Pipeline.cells cfgs cellOf_inj) (Pipeline.launchToks cfgs cellOf_inj), initOf allCells allToks)

/-- The duty tokens of a device's own cells. -/
def toks (c : Dev nD) : sProp 𝕄 := bigSep Finset.univ fun k : Kd => bigSep Finset.univ fun d : Fin 3 => dutyTok ER (kcell (c, k)) 0 d
/-- What the launch deals a device: its cells' round states, positions and tokens. -/
def G (c : Dev nD) : sProp 𝕄 :=
  iprop((bigSep Finset.univ fun k : Kd => roundState ER (xRd (F := F) σ m) (kcell (c, k)) 0)
    ∗ (bigSep Finset.univ fun k : Kd => iprop(atPos ER (kcell (c, k)) 0 ∅ 0 ∗ reached ER (kcell (c, k)) 0)) ∗ toks c)

theorem fund : BI.own (ER (initOf allCells allToks)) ⊢ (|==> bigSep Finset.univ (G (F := F) σ m) : sProp 𝕄) := by
  have hX (Φ : GSem nD τ sig → sProp 𝕄) : bigSep allCells Φ = bigSep Finset.univ fun c : Dev nD => bigSep Finset.univ fun k : Kd => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod, bigSep_univ_prod]; rfl
  iintro HX
  imod (Rounds.fund ER (xRd (F := F) σ m) allCells allToks) $$ HX with ⟨Hst, Hr, Hat, Htok⟩
  imodintro
  ihave Hst' := (Entails.of_eq (hX fun g => roundState ER (xRd (F := F) σ m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The kernel's semaphores at the launch -/

abbrev osem : Bool × T → SemLoc sig := fun p => .dma (dsem p.1 p.2)
theorem ownSemFacts : Pipeline.OwnSemFacts cfg0.spec osem where
  isScoped := by decide +kernel
  inj := fun p p' h => Option.some.inj (csem_inj (a₁ := some p) (a₂ := some p') h)
  disj := by
    rintro p w s h
    have h1 : dsem p.1 p.2 = (cfg0.spec w).sem s := SemLoc.dma.inj h
    have h2 : role ((cfg0.spec w).sem s) = none := by fin_cases w; fin_cases s; decide
    rw [← h1, role_dsem] at h2
    cases h2

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun t : T => zeroed (F := F) false t c) ∗ bigSep Finset.univ fun t : T => zeroed (F := F) true t c) := by
  show (bigSep Finset.univ fun p : Bool × T => semVal (cell p.1 p.2 c) 0 : sProp 𝕄) = _
  rw [bigSep_univ_prod, bigSep_univ_eq_bigSepL [false, true] (by decide) (by decide)]
  rfl

set_option maxRecDepth 4000 in
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G (F := F) σ m c)
      ⊢ |={Set.univ}=> iprop((bigSep Finset.univ fun k => iprop(∃ κ : ℕ, cellInv ER (xRd (F := F) σ m) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (show iprop(Pipeline.ownSems0 (Ix := Unit) (Name := ℕ) (U := UU) (Lvl := ℕ) (Val := Elt F) (τ := τ) osem c ∗ unscopedSems0 c)
      ⊢ (bigSep Finset.univ fun k : Kd => semVal (kcell (c, k)) 0 : sProp 𝕄) from by
    rw [ownSems0_eq, unscopedSems0_eq, bigSep_kd]
    iintro ⟨H, Hn⟩
    isplitl [Hn]; · iexact Hn
    iexact H) $$ [Hos Hus]
  · isplitl [Hos] <;> iassumption
  imod (show iprop((bigSep Finset.univ fun k : Kd => semVal (kcell (c, k)) 0) ∗ bigSep Finset.univ fun k : Kd => roundState ER (xRd (F := F) σ m) (kcell (c, k)) 0)
      ⊢ (|={Set.univ}=> bigSep Finset.univ fun k => iprop(∃ κ : ℕ, cellInv ER (xRd (F := F) σ m) κ (kcell (c, k))) : sProp 𝕄) from by
        rw [← bigSep_sep']
        exact (bigSep_mono fun k _ => (Rounds.body_intro ER (xRd (F := F) σ m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens, to whom pays -/

/-- The tokens a device pays with. -/
def pays (c : Dev nD) : sProp 𝕄 :=
  iprop((tokB (F := F) σ 0 c ∗ tokB (F := F) σ 1 c ∗ tokB (F := F) σ 2 c) ∗ bigSep Finset.univ fun t : T => iprop(tokL (F := F) t c ∗ tokR (F := F) σ t c))

omit [FloatOps F] in
theorem toks_to (c : Dev nD) : toks (F := F) c ⊢ iprop((bigSep Finset.univ fun d : Fin 3 => dutyTok ER (barCell c) 0 d)
    ∗ (bigSep Finset.univ fun t : T => tokL (F := F) t c) ∗ bigSep Finset.univ fun t : T => dutyTok ER (cell true t c) 0 0) := by
  unfold toks
  rw [bigSep_kd]
  refine sep_mono_right (BIClass.sep_mono (bigSep_mono fun t _ => ?_) (bigSep_mono fun t _ => ?_))
  · exact bigSep_elim (Finset.mem_univ (0 : Fin 3))
  · exact bigSep_elim (Finset.mem_univ (0 : Fin 3))

omit [FloatOps F] in
theorem deal : (bigSep Finset.univ fun c : Dev nD => toks (F := F) c) ⊢ bigSep Finset.univ fun c : Dev nD => pays (F := F) σ c := by
  have hB : (bigSep Finset.univ fun c : Dev nD => bigSep Finset.univ fun d : Fin 3 => (dutyTok ER (barCell c) 0 d : sProp 𝕄))
      = bigSep Finset.univ fun c : Dev nD => bigSep Finset.univ fun d : Fin 3 => tokB (F := F) σ d c := by
    rw [bigSep_univ_comm, bigSep_univ_comm (fun (c : Dev nD) (d : Fin 3) => tokB (F := F) σ d c)]
    exact bigSep_congr fun d _ => bigSep_univ_equiv (nbrEquiv σ d) (fun c : Dev nD => (dutyTok ER (barCell c) 0 d : sProp 𝕄))
  have hR : (bigSep Finset.univ fun c : Dev nD => bigSep Finset.univ fun t : T => (dutyTok ER (cell true t c) 0 0 : sProp 𝕄))
      = bigSep Finset.univ fun c : Dev nD => bigSep Finset.univ fun t : T => tokR (F := F) σ t c := by
    rw [bigSep_univ_comm, bigSep_univ_comm (fun (c : Dev nD) (t : T) => tokR (F := F) σ t c)]
    exact bigSep_congr fun t _ => bigSep_univ_equiv (nbrEquiv σ (dir t.1)) (fun c : Dev nD => (dutyTok ER (cell true t c) 0 0 : sProp 𝕄))
  refine (bigSep_mono fun c _ => toks_to c).trans ?_
  rw [bigSep_sep', bigSep_sep', hB, hR, ← bigSep_sep', ← bigSep_sep']
  refine bigSep_mono (M := 𝕄) fun c _ => ?_
  unfold pays
  rw [bigSep_sep', bigSep_univ_eq_bigSepL [0, 1, 2] (by decide) (by decide) (fun d : Fin 3 => tokB (F := F) σ d c)]
  exact Entails.of_eq (rfl : (_ : sProp 𝕄) = _)

/-- What every device knows and holds of the exchange when its body starts. -/
def ghost (K : Dev nD × Kd → ℕ) (c : Dev nD) : sProp 𝕄 :=
  iprop(records σ m K ∗ (bigSep Finset.univ fun k : Kd => atPos ER (kcell (c, k)) 0 ∅ 0) ∗ pays (F := F) σ c)
def G' (c : Dev nD) : sProp 𝕄 := iprop(∃ K, ghost σ m K c)

omit [FloatOps F] in
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xRd (F := F) σ m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' (F := F) σ m) := by
  rw [bigSep_sep', bigSep_sep', ← bigSep_univ_prod (fun p : Dev nD × Kd => iprop(∃ κ : ℕ, cellInv ER (xRd (F := F) σ m) κ (kcell p))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun p : Dev nD × Kd => (reached ER (kcell p) 0 : sProp 𝕄))]
  iintro ⟨HI, ⟨Hat, #HR⟩, Htok⟩
  ihave HK := (BI.bigSep_exists_pi Finset.univ (fun (p : Dev nD × Kd) (κ : ℕ) => (cellInv ER (xRd (F := F) σ m) κ (kcell p) : sProp 𝕄))) $$ HI
  icases HK with ⟨%K, #HI⟩
  ihave Htk := (deal (F := F) σ) $$ Htok
  iapply (bigSep_knowing (R := records σ m K) (Φ := fun c => iprop((bigSep Finset.univ fun k : Kd => atPos ER (kcell (c, k)) 0 ∅ 0) ∗ pays (F := F) σ c))
    fun c _ => show _ ⊢ G' (F := F) σ m c from by
      unfold G' ghost
      iintro ⟨#H, H1, H2⟩
      iexists K
      isplitr; · iexact H
      isplitl [H1] <;> iassumption)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G (F := F) σ m c) : sProp 𝕄)
    ⊢ |={Set.univ}=> bigSep Finset.univ (G' (F := F) σ m) :=
  ((bigSep_mono fun c _ => core_alloc σ m c).trans (bigSep_fupd _ _)).trans (BI.fupd_mono (regroup σ m))

/-! ## The launch credit -/

theorem cell_ne_bar (b : Bool) (t : T) (c d : Dev nD) : cell b t c ≠ barCell d := fun h => by cases congrArg Prod.snd h

theorem cell_eq_iff {t t' : T} {c c' : Dev nD} : cell true t c = cell true t' c' ↔ t = t' ∧ c = c' := by
  constructor
  · intro h
    have h1 := kcell_injective (a₁ := (c, some (true, t))) (a₂ := (c', some (true, t'))) h
    rw [Prod.mk.injEq, Option.some.injEq, Prod.mk.injEq] at h1
    exact ⟨h1.2.2, h1.1⟩
  · rintro ⟨rfl, rfl⟩; rfl

theorem owe_cell (d : Dev nD) (t : T) (c : Dev nD) : ∀ l : List T, owe σ d l (cell true t c) () = if d = peer σ t c then l.count t * Nn (len t.1) else 0
  | [] => by
    rw [List.count_nil, Nat.zero_mul, ite_self]; rfl
  | s :: l => by
    unfold owe
    rw [Pi.add_apply, Finsupp.add_apply, tallyAt_apply, owe_cell d t c l, List.count_cons]
    by_cases hs : s = t
    · subst hs
      rw [if_pos (beq_self_eq_true s)]
      by_cases hd : d = peer σ s c
      · have h : cell true s c = cell true s (peer σ s d) ∧ () = () := ⟨by rw [hd, peer_peer], rfl⟩
        rw [if_pos hd, if_pos h, if_pos hd, Nat.add_mul, Nat.one_mul]
      · have h : ¬ (cell true s c = cell true s (peer σ s d) ∧ () = ()) := fun h => hd (by rw [(cell_eq_iff.mp h.1).2, peer_peer])
        rw [if_neg hd, if_neg h, if_neg hd]
    · have h : ¬ (cell true t c = cell true s (peer σ s d) ∧ () = ()) := fun h => hs (cell_eq_iff.mp h.1).1.symm
      rw [if_neg h, if_neg (fun h => hs (beq_iff_eq.mp h)), Nat.add_zero, Nat.add_zero]

theorem owe_bar (d c : Dev nD) : ∀ l : List T, owe σ d l (barCell c) () = 0
  | [] => rfl
  | s :: l => by
    unfold owe
    rw [Pi.add_apply, Finsupp.add_apply, tallyAt_apply, owe_bar d c l, if_neg (fun h => cell_ne_bar _ _ _ _ h.1.symm)]

theorem order_count (t : T) (h : used t = true) : order.count t = 1 := by revert t; decide +kernel

theorem bar_eq_iff {a b : Dev nD} : barCell a = barCell b ↔ a = b :=
  ⟨fun h => congrArg (fun g : GSem nD τ sig => g.1.1) h, fun h => h ▸ rfl⟩

/-- A signal to a neighbour counts at that neighbour's barrier. -/
theorem bar_tally (d c : Dev nD) (k : Fin 3) : tallyAt (barCell (nbr σ k d)) () 1 (barCell c) () = if d = nbr σ k c then 1 else 0 := by
  rw [tallyAt_apply]
  by_cases h : d = nbr σ k c
  · subst h; rw [nbr_nbr, if_pos ⟨rfl, rfl⟩, if_pos rfl]
  · rw [if_neg (fun h' => h (by rw [bar_eq_iff.mp h'.1, nbr_nbr])), if_neg h]

theorem owed_bar (d c : Dev nD) : O₀ σ d (barCell c) ()
    = (if d = nbr σ 2 c then 1 else 0) + (if d = nbr σ 1 c then 1 else 0) + (if d = nbr σ 0 c then 1 else 0) := by
  rw [← bar_tally σ d c 2, ← bar_tally σ d c 1, ← bar_tally σ d c 0]
  unfold O₀
  rw [Pi.add_apply, Finsupp.add_apply, Pi.add_apply, Finsupp.add_apply, Pi.add_apply, Finsupp.add_apply, owe_bar, Nat.zero_add]
  rfl

theorem owed_cell (d c : Dev nD) (t : T) (h : used t = true) : O₀ σ d (cell true t c) () = if d = peer σ t c then Nn (len t.1) else 0 := by
  unfold O₀
  rw [Pi.add_apply, Finsupp.add_apply, Pi.add_apply, Finsupp.add_apply, Pi.add_apply, Finsupp.add_apply, owe_cell, order_count t h, Nat.one_mul,
    tallyAt_ne_cell (cell_ne_bar _ _ _ _), tallyAt_ne_cell (cell_ne_bar _ _ _ _), tallyAt_ne_cell (cell_ne_bar _ _ _ _)]
  rfl

theorem launch_bar (c : Dev nD) :
    tallyOn (barCell c) (launchCredit (Pipeline.owing (O₀ σ)) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar σ d c, Finset.sum_add_distrib, Finset.sum_add_distrib,
    Finset.sum_ite_eq' Finset.univ (nbr σ 2 c) fun _ => 1, Finset.sum_ite_eq' Finset.univ (nbr σ 1 c) fun _ => 1, Finset.sum_ite_eq' Finset.univ (nbr σ 0 c) fun _ => 1,
    if_pos (Finset.mem_univ _), if_pos (Finset.mem_univ _), if_pos (Finset.mem_univ _)]

theorem launch_cell (c : Dev nD) (t : T) (h : used t = true) :
    tallyOn (cell true t c) (launchCredit (Pipeline.owing (O₀ σ)) 0 (cell true t c)) = (tallyAt (cell true t c) () (Nn (len t.1)) : CellTallies nD τ sig Unit) := by
  unfold tallyAt; refine congrArg _ (Finsupp.ext fun u => ?_); cases u
  rw [Pipeline.launchCredit_owing, Finsupp.single_eq_same, Finset.sum_congr rfl fun d _ => owed_cell σ d c t h,
    Finset.sum_ite_eq' Finset.univ (peer σ t c) fun _ => Nn (len t.1), if_pos (Finset.mem_univ _)]

omit [FloatOps F] in
theorem creds (c : Dev nD) :
    (Pipeline.launchCred (O₀ σ) c : sProp 𝕄) ⊢ iprop(cred (tallyAt (barCell c) () 3) ∗ six fun t => credOf (F := F) true t c) := by
  unfold Pipeline.launchCred
  refine (bigSep_subset (Finset.subset_univ (Finset.univ.map ⟨csem, csem_inj⟩))).trans ?_
  rw [bigSep_map, bigSep_kd]
  refine BIClass.sep_mono (Entails.of_eq (congrArg cred (launch_bar σ c))) ?_
  iintro ⟨-, H⟩
  ihave H' := (whole_apart (F := F) _) $$ H
  icases H' with ⟨H, -⟩
  iapply (six_mono (F := F) fun t ht => Entails.of_eq (congrArg cred (launch_cell σ c t ht)))
  iexact H

end Cert.KernelIdealProof

end
-- ==== Proof.KernelIdealRun.lean ====
/-
# The run

Under a table that sends every device where the pairing says, the body runs from what the launch deals to the final
blocks, so the launch ends, and it ends with every output block at its final contents, the arguments as they were and
all counters at zero.
-/
module

public import proofs.«01_k».proof.Proof.KernelIdealDeal
public import Idealize.ShloMosaic.Lib.Pipeline.Launch
public import Idealize.ShloMosaic.Lib.Pipeline.Kit
public import Idealize.ShloMosaic.Lib.Pipeline.CollectiveSegs
public import Idealize.ShloMosaic.Lib.Scf
public import Idealize.ShloMosaic.Lib.Tactic

@[expose] public section

noncomputable section

namespace Cert.KernelIdealProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Swap) (m : (ℓ : Loc nD τ sig) → Buf (Elt F) ℓ) (ρ : Dev nD → PrngReg)

def s₀ : MemSt nD τ sig (Elt F) := ⟨m, fun _ => 0, ρ⟩

/-! ## The table's word -/

/-- The place of a device's word in the table. -/
def slot (c : Dev nD) : S2.Idx := fun a => ⟨c.val / 4, by have : c.val < 8 := c.isLt; fin_cases a; show c.val / 4 < 2; omega⟩

/-- On every device the table's word for it names the plane its block goes to. -/
def Aimed : Prop := ∀ c : Dev nD, (m ((c : Thread nD τ).loc main_arg1) : IVec S2 32) (slot c) = BitVec.ofNat 32 ((σ.tgt c).val / 4)

/-- The table as staged, and the word of it a device reads. -/
def tstg (c : Dev nD) : (cc0_stg0_0 : Ref sig .tc).ty.Contents (Elt F) :=
  (win0_0.blk (0 : Fin 1)).view.read (Elt F) ((s₀ m ρ).mem ((c : Thread nD τ).loc main_arg1))
abbrev word (c : Dev nD) (ts : (cc0_stg0_0 : Ref sig .tc).ty.Contents (Elt F)) : BitVec 32 :=
  ((Memref.whole cc0_stg0_0).access (r1 c) : View sig .tc _ _ _).read (Elt F) ts (Shape.Idx.first (s := S1) (numel1_S1.symm ▸ Nat.one_pos))

omit [FloatOps F] in
theorem word_tstg (c : Dev nD) : word c (tstg m ρ c) = (m ((c : Thread nD τ).loc main_arg1) : IVec S2 32) (slot c) := by
  show m ((c : Thread nD τ).loc main_arg1) _ = _
  refine congrArg _ (funext fun a => Fin.ext ?_)
  fin_cases a; fin_cases c <;> rfl

/-- A word naming the plane of a device in the same place of its plane passes the body's check and leads to that device. -/
theorem aim (c d : Dev nD) (h : d.val % 4 = c.val % 4) :
    k0_chk1 c (BitVec.ofNat 32 (d.val / 4)) ∧ k0_dev4 c (BitVec.ofNat 32 (d.val / 4)) = d.val := by
  revert c d; decide +kernel

variable {σ m} in
omit [FloatOps F] in
theorem Aimed.chk (h : Aimed σ m) (c : Dev nD) : k0_chk1 c (word c (tstg m ρ c)) := by
  rw [word_tstg, h c]; exact (aim c (σ.tgt c) (σ.quad c)).1
variable {σ m} in
omit [FloatOps F] in
theorem Aimed.dev (h : Aimed σ m) (c : Dev nD) (hl : k0_dev4 c (word c (tstg m ρ c)) < nD) :
    (⟨k0_dev4 c (word c (tstg m ρ c)), hl⟩ : Dev nD) = σ.tgt c := by
  apply Fin.ext
  show k0_dev4 c (word c (tstg m ρ c)) = _
  rw [word_tstg, h c]; exact (aim c (σ.tgt c) (σ.quad c)).2

/-! ## The pipeline's proof data -/

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

/-- What a device's body starts from. -/
def start (c : Dev nD) : sProp 𝕄 :=
  iprop(G' (F := F) σ m c ∗ levAts L lv ∗ (cred (tallyAt (barCell c) () 3) ∗ six fun t => credOf (F := F) true t c)
    ∗ (((c : Thread nD τ).loc main_arg0) ↦{fullShare} xBlk m c) ∗ ∃ f, (((c : Thread nD τ).loc main_v1) ↦{fullShare} f))
/-- What it leaves besides its counters at zero. -/
def left₁ (c : Dev nD) : sProp 𝕄 :=
  iprop(unscopedSems0 c ∗ (((c : Thread nD τ).loc main_arg0) ↦{fullShare} xBlk m c) ∗ (((c : Thread nD τ).loc main_v1) ↦{fullShare} fin σ m c))
def Φ₁ (c : Dev nD) : sProp 𝕄 :=
  iprop(left₁ σ m c ∗ Pipeline.ownSems0 (Ix := Unit) (Name := ℕ) (U := UU) (Lvl := ℕ) (Val := Elt F) (τ := τ) osem c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tstg m ρ c
  Φ t := match t with
    | ⟨0, _⟩ => start σ m c
    | ⟨_ + 1, _⟩ => Φ₁ σ m c
  q _ := fullShare
  owed t := match t with
    | ⟨0, _⟩ => O₀ σ c
    | ⟨_ + 1, _⟩ => 0

omit [FloatOps F] in
theorem bigSep_W (Φ : Fin cfg0.W → sProp 𝕄) : bigSep Finset.univ Φ = iprop(Φ (0 : Fin 1)) := bigSep_W0 Φ
theorem fetch_0 (t : Fin cfg0.N) : (cfg0.win (0 : Fin 1)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(start σ m c ∗ (dats σ m ρ 0 c).owesAt () t₀.castSucc ∗ (∃ d, stg c cc0_stg0_0 ((dats σ m ρ 0 c).before (0 : Fin 1) t₀ d)))
def bodyPost (c : Dev nD) : sProp 𝕄 :=
  iprop(Φ₁ σ m c ∗ (dats σ m ρ 0 c).owesAt () t₀.succ ∗ stg c cc0_stg0_0 (tstg m ρ c))

omit [FloatOps F] in
theorem x_whole (c : Dev nD) (f : Buf (Elt F) ((c : Thread nD τ).loc main_arg0)) :
    run (rX c) fullShare 0 2048 f = (((c : Thread nD τ).loc main_arg0) ↦{fullShare} f : sProp 𝕄) :=
  run_all (rX c) fullShare f fun i => (i (1 : Fin 3)).isLt
omit [FloatOps F] in
theorem o_whole (c : Dev nD) (f : Buf (Elt F) ((c : Thread nD τ).loc main_v1)) :
    run (rO c) fullShare 0 2048 f = (((c : Thread nD τ).loc main_v1) ↦{fullShare} f : sProp 𝕄) :=
  run_all (rO c) fullShare f fun i => (i (1 : Fin 3)).isLt

omit [FloatOps F] in
/-- All of a device's cells' places at zero: the barrier's, the used transfers' and the idle ones', either side. -/
theorem places_apart (c : Dev nD) :
    (bigSep Finset.univ fun k : Kd => (atPos ER (kcell (c, k)) 0 ∅ 0 : sProp 𝕄))
      ⊢ iprop(atPos ER (barCell c) 0 ∅ 0 ∗ (six (fun t => atZero (F := F) false t c) ∗ idle fun t => atZero (F := F) false t c)
          ∗ six (fun t => atZero (F := F) true t c) ∗ idle fun t => atZero (F := F) true t c) := by
  rw [bigSep_kd]
  exact BIClass.sep_mono (Entails.refl _) (BIClass.sep_mono (whole_apart _) (whole_apart _))

set_option maxHeartbeats 4000000 in
/-- The body, from its start to its end. -/
theorem sound_body (hA : Aimed σ m) (c : Dev nD) (Kt : PUnit → sProp 𝕄) :
    iprop(bodyPre σ m ρ c ∗ (bodyPost σ m ρ c -∗ Kt ⟨⟩))
      ⊢ wp frame (wpE (defs₀ (F := F)) 𝒱₀ c none) Set.univ
          (cc0_body tM (Memref.isWhole_whole _) xM (Memref.isWhole_whole _) oM (Memref.isWhole_whole _) cc0_scratch0 cc0_scratch1) Kt := by
  rw [body_eq]
  simp only [smemLoad, smemLoadElt, Prog.lift, Prog.bind_op, Prog.bind_ret, Prog.pure_eq_ret, Prog.bind_assoc, wp_deviceId]
  unfold bodyPre start G' ghost pays
  iintro ⟨⟨⟨⟨%K, #HR, Hat, ⟨HB0, HB1, HB2⟩, HT⟩, #Hlev, ⟨Hcb, Hcr⟩, Hx, ⟨%f, Hout⟩⟩, Ho, ⟨%d0, %g0, %hg0, Ht⟩⟩, Hk⟩
  have ht : g0 = tstg m ρ c := by rw [hg0]; unfold Dat.before; rw [if_pos (fetch_0 t₀)]; rfl
  subst ht
  unfold Dat.owesAt Pipeline.owesWithin
  icases Ho with ⟨%W, %hW, HO⟩
  rw [show (dats σ m ρ 0 c).owed t₀.castSucc = O₀ σ c from rfl]
  -- the table's word, and the check of it
  iapply (wp_load_rect 𝒱₀ (c : Thread nD τ) none Set.univ (m := tM) (r := r1 c) (Finset.subset_univ _)) $$ Ht; iintro Ht
  simp only [wp_assume_of _ _ _ _ (d := k0_chk1.dec _ _) (hA.chk ρ c)]
  rw [hA.dev ρ c _, show (⟨k0_dev2 c, k0_dev2_lt c⟩ : Dev nD) = yn c from rfl, show (⟨k0_dev3 c, k0_dev3_lt c⟩ : Dev nD) = zn c from rfl]
  -- the cells' places
  ihave Hat' := (places_apart (F := F) c) $$ Hat
  icases Hat' with ⟨Hab, ⟨Has, His⟩, Har, Hir⟩
  imod (idle_close (F := F) σ m K false c) $$ [His] with His
  · isplitr; · iexact HR
    iexact His
  imod (idle_close (F := F) σ m K true c) $$ [Hir] with Hir
  · isplitr; · iexact HR
    iexact Hir
  ihave HT' := (whole_apart (F := F) fun t => iprop(tokL (F := F) t c ∗ tokR (F := F) σ t c)) $$ HT
  icases HT' with ⟨HT, -⟩
  ihave Hd := (six_pair (F := F) (fun t => credOf (F := F) true t c) (fun t => atZero (F := F) true t c)) $$ [Hcr Har]
  · isplitl [Hcr] <;> iassumption
  ihave Hx' := (Entails.of_eq (x_whole (F := F) c (xBlk m c)).symm) $$ Hx
  ihave Hout' := (Entails.of_eq (o_whole (F := F) c f).symm) $$ Hout
  iapply (rest_runs σ m K c f W Kt) $$ [Hab Hcb HB0 HB1 HB2 HT Hd Has HO Hx' Hout']
  · isplitr; · iexact HR
    isplitr; · iexact Hlev
    isplitl [Hcb Hab]; · isplitl [Hcb] <;> iassumption
    isplitl [HB0 HB1 HB2]
    · isplitl [HB0]; · iexact HB0
      isplitl [HB1] <;> iassumption
    isplitl [HT]; · iexact HT
    isplitl [Hd]; · iexact Hd
    isplitl [Has]; · iexact Has
    isplitl [HO]; · iexact HO
    isplitl [Hx'] <;> iassumption
  unfold owesAny
  iintro ⟨⟨%W', HO⟩, Hzb, Hzr, Hzs, Hx, Hout⟩
  ihave Hzs := (whole_back (F := F) fun t => zeroed (F := F) false t c) $$ [Hzs His]
  · isplitl [Hzs] <;> iassumption
  ihave Hzr := (whole_back (F := F) fun t => zeroed (F := F) true t c) $$ [Hzr Hir]
  · isplitl [Hzr] <;> iassumption
  ihave Hx := (Entails.of_eq (x_whole (F := F) c (xBlk m c))) $$ Hx
  ihave Hout := (Entails.of_eq (o_whole (F := F) c (fin σ m c))) $$ Hout
  iapply Hk
  unfold bodyPost Φ₁ left₁ Dat.owesAt Pipeline.owesWithin
  rw [ownSems0_eq, unscopedSems0_eq, show (dats σ m ρ 0 c).owed t₀.succ = 0 from rfl]
  isplitl [Hzb Hzs Hzr Hx Hout]
  · isplitl [Hzb Hx Hout]
    · isplitl [Hzb]; · iexact Hzb
      isplitl [Hx]; · iexact Hx
      iexact Hout
    isplitl [Hzs]; · iexact Hzs
    iexact Hzr
  isplitl [HO]
  · iexists W'
    isplitr
    · ipureintro; exact fun _ _ => Or.inl trivial
    iexact HO
  · iexists _
    isplitr; · ipureintro; rfl
    iexact Ht

set_option maxRecDepth 40000 in
theorem body_obligation (hA : Aimed σ m) (c : Dev nD) : BodyObligation (dats (F := F) σ m ρ 0 c) (defs₀ (F := F)) 𝒱₀ () Set.univ := fun t => by
  rw [fin_N t]
  rw [bigSep_W, bigSep_W]
  simp only [owns_whole_eq]
  show bodyPre σ m ρ c ⊢ wp frame (wpE (defs₀ (F := F)) 𝒱₀ c none) Set.univ
    (cc0_body tM (Memref.isWhole_whole _) xM (Memref.isWhole_whole _) oM (Memref.isWhole_whole _) cc0_scratch0 cc0_scratch1) (fun _ => bodyPost σ m ρ c)
  iintro H
  iapply (sound_body σ m ρ hA c fun _ => bodyPost σ m ρ c)
  isplitl [H]; · iexact H
  iintro H; iexact H

/-! ## The launch -/

theorem share_eq (c : Dev nD) (w : Fin cfg0.W) : (dats σ m ρ 0 c).share w = fullShare := by unfold Dat.share; split <;> rfl

omit [FloatOps F] in
theorem rest_none (c : Dev nD) : (Pipeline.unscopedRestP (Ix := Unit) (Name := ℕ) (U := UU) (Lvl := ℕ) Pipeline.Prefetch.none cfg0.spec c (fun b => m ((c : Thread nD τ).loc b)) : sProp 𝕄)
    = iprop((((c : Thread nD τ).loc main_arg0) ↦{fullShare} m ((c : Thread nD τ).loc main_arg0)) ∗ (((c : Thread nD τ).loc main_v1) ↦{fullShare} m ((c : Thread nD τ).loc main_v1))) :=
  (Pipeline.unscopedRestP_none _ _ _).trans (unscopedRest0_eq c _)

theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' σ m c)
      ⊢ |={Set.univ}=> iprop(start σ m c ∗ emp) := by
  rw [rest_none]
  iintro ⟨⟨Hx, Ho⟩, Hlev, Hcr, -, HG⟩
  ihave Hc := (creds (F := F) σ c) $$ Hcr
  imodintro
  unfold start
  isplitl
  · isplitl [HG]; · iexact HG
    isplitl [Hlev]; · iexact Hlev
    isplitl [Hc]; · iexact Hc
    isplitl [Hx]; · iexact Hx
    iexists _; iexact Ho
  · iempintro

theorem phi0_intro (c : Dev nD) :
    iprop(start σ m c ∗ Pipeline.prefHeld Pipeline.Prefetch.none c (fun _ => fullShare.right) (fun k => k.elim0) ∗ Pipeline.scopedRest cfg0.spec c)
      ⊢ (dats σ m ρ 0 c).Φ 0 := by
  rw [show (dats σ m ρ 0 c).Φ 0 = start σ m c from rfl]
  iintro ⟨Hs, -, -⟩; iexact Hs

theorem phi1_exit (c : Dev nD) :
    (dats σ m ρ 0 c).Φ (Fin.last cfg0.N) ⊢ iprop(left₁ σ m c ∗ Pipeline.ownSems0 osem c ∗ Pipeline.scopedRest cfg0.spec c) := by
  rw [show (dats σ m ρ 0 c).Φ (Fin.last cfg0.N) = Φ₁ σ m c from rfl, scopedRest0_eq]
  unfold Φ₁
  iintro ⟨H1, H2⟩
  isplitl [H1]; · iexact H1
  isplitl [H2]; · iexact H2
  iempintro

theorem waits (c : Dev nD) : (levAts L lv : sProp 𝕄) ⊢ Pipeline.cellsWaits cfgs (dats σ m ρ) () 0 c :=
  Pipeline.cellsWaits_intro cfgs (dats σ m ρ) () 0 c fun w s t =>
    mayWait_stage σ c _ (by fin_cases w; fin_cases s; rfl) _ (by
      rcases t with ⟨_ | _, ht⟩
      · exact Or.inl rfl
      · exact Or.inr rfl)

/-- What every final memory says. -/
def Ends (r : PUnit × MemSt nD τ sig (Elt F)) : Prop :=
  ∀ c : Dev nD, r.2.mem ((c : Thread nD τ).loc main_v1) = fin σ m c
    ∧ r.2.mem ((c : Thread nD τ).loc main_arg0) = m ((c : Thread nD τ).loc main_arg0)
    ∧ r.2.mem ((c : Thread nD τ).loc main_arg1) = m ((c : Thread nD τ).loc main_arg1)

set_option maxRecDepth 40000 in
/-- From any memory whose tables aim as the pairing says, counters at zero: every weakly fair execution of the kernel on
    all devices ends, with every output block final, the arguments unchanged and every counter at zero. -/
theorem run_main (hA : Aimed σ m) :
    θ_run defs (onTc (τ := τ) (main (F := F))) (s₀ m ρ) (fun r => Ends σ m r ∧ r.2.sem = fun _ => 0) :=
  Pipeline.θ_run_region_owing_glob_pf (fun p => (cfgs p).toPCfg) (fun p => (cfgs p).toPCfg_adm) (dats σ m ρ) () cellOf_inj (0 : Fin 1)
    winFacts0.to₀ ownSemFacts (Pipeline.PreFacts.none _) EP defs₀ 𝒱₀ m ρ main
    (hmain := fun _ => rfl)
    (hbody := body_obligation σ m ρ hA) (hne := fun w => by fin_cases w; exact Nat.succ_pos _) (harr := arr_whole0) (hstage := stage_whole0) (hshare := share_eq σ m ρ)
    (hdistinct := winFacts0.arr_inj)
    (O₀ := O₀ σ) (howed₀ := fun _ => rfl) (howedN := fun _ => rfl)
    (L := L) (lv := lv) (hL := L_of_ne) (hwaits := waits σ m ρ)
    (G := G σ m) (G' := G' σ m) (u₀ := u₀)
    (hu₀ := by
      unfold u₀
      iintro Hu
      ihave H := (ownU_pair _ _) $$ Hu
      icases H with ⟨HP, HX⟩
      imod (fund σ m) $$ HX with HG
      imodintro
      isplitl [HP] <;> iassumption)
    (hglob := glob σ m)
    (hA := fun _ _ => rfl) (hpf := fun _ k => k.elim0)
    (X := start σ m) (Y := left₁ σ m) (Z := fun _ => iprop(emp))
    (hX := start_intro σ m ρ) (hin := phi0_intro σ m ρ) (hout := phi1_exit σ m ρ)
    (QY := fun c s => (∀ sm : SemLoc sig, sm.isScoped .tc = false → s.sem ((c.tc : Thread nD τ), sm) = 0)
      ∧ s.mem ((c : Thread nD τ).loc main_arg0) = m ((c : Thread nD τ).loc main_arg0) ∧ s.mem ((c : Thread nD τ).loc main_v1) = fin σ m c)
    (hY := fun c s' => by
      unfold left₁
      iintro ⟨⟨Hu, Hx, Ho⟩, -, HSI⟩
      icombine HSI Hx gives %hx
      icombine HSI Ho gives %ho
      imod (Pipeline.unscopedSems0_read (X := unscopedSems0 c) (c := c) fupd_intro s') $$ [Hu HSI] with ⟨%hu, HSI⟩
      · isplitl [Hu] <;> iassumption
      imodintro
      isplitr; · ipureintro; exact ⟨hu, Buf.eq_of_forall_mem_univ hx, Buf.eq_of_forall_mem_univ ho⟩
      iexact HSI)
    (hQ := fun s h hs => ⟨fun c => ⟨(h c).2.2.2.2, (h c).2.2.2.1, ((h c).1 (0 : Fin 1)).trans ((dats (F := F) σ m ρ 0 c).arrAt_in (0 : Fin 1) rfl _)⟩,
      sem_eq_zero hs fun c => (h c).2.2.1⟩)

end Cert.KernelIdealProof

end
-- ==== Proof.KernelIdealAim.lean ====
/-
# The tables the kernel is run with

A table that exchanges the two planes, or leaves them where they are, aims at a pairing of the devices; each precondition
says that the table is one of the two. So under either the kernel runs, and keeps its arguments.
-/
module

public import proofs.«01_k».proof.Proof.KernelIdealRun
public import proofs.«01_k».proof.Proof.Table
public import proofs.«01_k».proof.Proof.Gen.Pre_pi_swaps_Kernel
public import proofs.«01_k».proof.Proof.Gen.Pre_pi_stays_Kernel

@[expose] public section

noncomputable section

namespace Cert.KernelIdealProof

open Cert.KernelIdeal Cert.KernelIdeal.Gen Cert.Table

open Idealize.ShloMosaic Idealize.ShloMosaic.TcCoe
open Idealize.SL.Sem

variable {F : FTy → Type} [FloatOps F]

/-- The device a device sends to: in the other plane (`b`) or itself. -/
def across (b : Bool) (c : Dev nD) : Dev nD := if b then ⟨(c.val + 4) % 8, Nat.mod_lt _ (by decide)⟩ else c

def pairing (b : Bool) : Swap where
  tgt := across b
  inv := by revert b; decide
  quad := by revert b; decide

/-- The plane of a device, and of the device it sends to. -/
def plane (c : Dev nD) : Fin 2 := ⟨c.val / 4, by have : c.val < 8 := c.isLt; omega⟩
theorem plane_across (b : Bool) (c : Dev nD) : plane (across b c) = place b (plane c) := by revert b c; decide

/-- The device whose block a row comes through is in the row's own plane. -/
theorem plane_home (c : Dev nD) (r : ℕ) (hr : r < 2048) : plane (home c r) = plane c := by
  apply Fin.ext
  have hc : c.val < 8 := c.isLt
  unfold home plane
  split
  · rfl
  split
  · show (4 * (c.val / 4) + r / 512) / 4 = c.val / 4
    omega
  · rfl

variable (m : (ℓ : Loc nD τ sig) → Buf (Elt F) ℓ)

omit [FloatOps F] in
theorem aimed_of_table (b : Bool) (h : ∀ c : Dev nD, (m ((c : Thread nD τ).loc main_arg1) : IVec S2 32) = table b) : Aimed (pairing b) m := by
  intro c
  rw [h c]
  show BitVec.ofNat 32 (place b (plane c)).val = BitVec.ofNat 32 (plane (across b c)).val
  rw [plane_across]

/-- The precondition that the table exchanges the planes says which table it is. -/
theorem table_of_swaps [Cert.Pre_pi_swaps_Kernel.Facts] (x : FVec F S1x2048x1024 .f32) (p : IVec S2 32)
    (h : Cert.Pre_pi_swaps_Kernel.fn (F := F) x p = fun _ => 1#1) : p = table true := by
  funext i
  refine (eq_of_cmpi (congrFun h i)).trans ?_
  revert i
  exact index_cases (by decide) (by decide)

/-- The precondition that the table leaves the planes says which table it is. -/
theorem table_of_stays [Cert.Pre_pi_stays_Kernel.Facts] (x : FVec F S1x2048x1024 .f32) (p : IVec S2 32)
    (h : Cert.Pre_pi_stays_Kernel.fn (F := F) x p = fun _ => 1#1) : p = table false := by
  funext i
  refine (eq_of_cmpi (congrFun h i)).trans ?_
  revert i
  exact index_cases (by decide) (by decide)

/-- The kernel's frame under a table: it ends, its arguments unchanged, its counters at zero. -/
theorem frame_of_table (b : Bool) (ρ : Dev nD → PrngReg) (h : ∀ c : Dev nD, (m ((c : Thread nD τ).loc main_arg1) : IVec S2 32) = table b) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  (θ_run defs _ _).mono (fun _ e => ⟨fun c => (e.1 c).2, e.2⟩) (run_main (pairing b) m ρ (aimed_of_table m b h))

end Cert.KernelIdealProof

end
-- ==== Proof.Reference.lean ====
/-
# The reference

Under either table the reference's result is its argument with the two halves where the table says.
-/
module

public import proofs.«01_k».proof.Proof.Table
public import proofs.«01_k».proof.Proof.Gen.ReferenceIdeal.Run
public import Idealize.ShloMosaic.Lib.Claim
public import Idealize.ShloMosaic.Lib.Quiescent

@[expose] public section

noncomputable section

namespace Cert.ReferenceProof

open Cert.ReferenceIdeal Cert.ReferenceIdeal.Gen Cert.Table
open Idealize.ShloMosaic Idealize.ShloMosaic.TcCoe Idealize.SL.Sem

variable {F : FTy → Type} [FloatOps F]

/-- The order that sorts a table. -/
def sorted (p : IVec S2 32) : IVec S2 32 := (Host.sort2 S2 0 comparator_i32_i32_d0 p (iotaInDim S2 32 0)).2

/-- The order as the gather takes it: a negative position counted from the end, in a column. -/
def column (p : IVec S2 32) : IVec S2x1 32 :=
  broadcastInDim S2x1 ![0] bcast_S2_S2x1_0 (select (cmpi .slt (sorted p) (broadcastInDim S2 ![] bcast_S_S2 (constantI S_ 32 0#32)))
    (addi (sorted p) (broadcastInDim S2 ![] bcast_S_S2 (constantI S_ 32 2#32))) (sorted p))

/-- A table that is a pairing sorts itself. -/
theorem sorted_table (b : Bool) : sorted (table b) = table b := by
  funext i
  revert i
  cases b <;> exact index_cases (by decide) (by decide)

/-- An entry of the column. -/
theorem column_table (b : Bool) (k : S2x1.Idx) : column (table b) k = BitVec.ofNat 32 (place b (k 0)).val := by
  unfold column
  rw [sorted_table]
  have e : ∀ i : S2.Idx, select (cmpi .slt (table b) (broadcastInDim S2 ![] bcast_S_S2 (constantI S_ 32 0#32)))
      (addi (table b) (broadcastInDim S2 ![] bcast_S_S2 (constantI S_ 32 2#32))) (table b) i = table b i := by
    cases b <;> exact index_cases (by decide) (by decide)
  show select _ _ _ _ = _
  rw [e]
  rfl

/-- Where an element of the result is in the argument: the half that the table names, the same row and column. -/
def from' (b : Bool) (j : S2x2048x1024.Idx) : S2x2048x1024.Idx := fun
  | ⟨0, _⟩ => place b (j 0)
  | ⟨1, _⟩ => j 1
  | ⟨2, _⟩ => j 2

theorem gathered (b : Bool) (x : FVec F S2x2048x1024 .f32) (j : S2x2048x1024.Idx) :
    Host.gather gather_S2x2048x1024_S2x1_S2x2048x1024_12_0_n_n_0_1_120481024 x (column (table b)) j = x (from' b j) := by
  unfold Host.gather
  refine congrArg x (funext fun a => Fin.ext ?_)
  have word : ∀ k : Fin 2, min (BitVec.ofNat 32 (place b k).val).toInt.toNat 1 = (place b k).val := by revert b; decide
  match a with
  | ⟨0, _⟩ =>
    show GatherDims.start _ j (column (table b)) 0 + GatherDims.batchCoord _ j 0 + GatherDims.offCoord _ j 0 = (place b (j 0)).val
    rw [GatherDims.batchCoord_eq_zero _ _ _ (List.not_mem_nil), GatherDims.offCoord_eq_zero _ _ _ (by rw [GatherDims.mem_sKept]; exact fun h => h.1 (List.mem_singleton.mpr rfl)),
      Nat.add_zero, GatherDims.start,
      dif_pos (show (0 : Fin 3) ∈ gather_S2x2048x1024_S2x1_S2x2048x1024_12_0_n_n_0_1_120481024.startIndexMap from List.mem_singleton.mpr rfl), column_table]
    exact word (j 0)
  | ⟨1, _⟩ =>
    show 0 + 0 + (j 1).val = (j 1).val
    omega
  | ⟨2, _⟩ =>
    show 0 + 0 + (j 2).val = (j 2).val
    omega

variable (m : (ℓ : Loc nD τ sig) → Buf (Elt F) ℓ) (ρ : Dev nD → PrngReg)

/-- The reference runs, its counters at zero in the end: it has none. -/
theorem frame : θ_run defs (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ e => ⟨fun c => (e c).2,
    sem_eq_zero_of_no_sems rfl _⟩) (Cert.ReferenceIdeal.Value.run m ρ)

/-- With a table for its second argument the reference's result is its first argument in the table's order. -/
theorem run_table (b : Bool) (h : (m (((0 : Dev nD) : Thread nD τ).loc main_arg1) : IVec S2 32) = table b) :
    θ_run defs (onTc (τ := τ) (main (F := F))) ⟨m, fun _ => 0, ρ⟩ fun r =>
      r.2.mem (((0 : Dev nD) : Thread nD τ).loc main_v7)
          = (fun j => (m (((0 : Dev nD) : Thread nD τ).loc main_arg0) : FVec F S2x2048x1024 .f32) (from' b j) : FVec F S2x2048x1024 .f32)
        ∧ r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1) :=
  (θ_run defs _ _).mono (fun _ e => ⟨(e 0).1.trans (by
    rw [h]
    exact funext fun j => gathered b _ j), (e 0).2⟩) (Cert.ReferenceIdeal.Value.run m ρ)

end Cert.ReferenceProof

end
-- ==== Proof.Equal.lean ====
/-
# Kernel and reference agree

Where each device's argument block is its block of the reference's argument, the final block of a device is its block of
the reference's result: a row comes from a device of the plane that the table names for the device's own, and all devices
of one plane hold the same block.
-/
module

public import proofs.«01_k».proof.Defs
public import proofs.«01_k».proof.Proof.KernelIdealAim
public import proofs.«01_k».proof.Proof.Reference
public import Idealize.ShloMosaic.Lib.Layout

@[expose] public section

noncomputable section

namespace Cert.Equal

open Idealize.ShloMosaic Idealize.ShloMosaic.TcCoe Idealize.SL.Sem
open Cert.KernelIdeal Cert.KernelIdealProof Cert.Table
open Cert.ReferenceProof (from')

/-- Device `c`'s block of a whole array. -/
abbrev block (c : Dev nD) (x : FVec Ideal ⟨3, ![2, 2048, 1024]⟩ .f32) : FVec Ideal S1x2048x1024 .f32 :=
  Layout.blockN ⟨3, ![1, 2048, 1024]⟩ ⟨3, ![2, 2048, 1024]⟩ (Layout.meshBlock [2, 2, 2] ![[0], [], []] c) x

/-- Where an element of a block is in the whole array: in the device's plane's half, the same row and column. -/
def whole (k : Fin 2) (i : S1x2048x1024.Idx) : (⟨3, ![2, 2048, 1024]⟩ : Shape).Idx := fun
  | ⟨0, _⟩ => k
  | ⟨1, _⟩ => i 1
  | ⟨2, _⟩ => i 2

theorem lin_plane : ∀ c : Dev nD, Layout.meshLin [2, 2, 2] c.val [0] = (plane c).val := by decide

theorem block_apply (c : Dev nD) (x : FVec Ideal ⟨3, ![2, 2048, 1024]⟩ .f32) (i : S1x2048x1024.Idx) : block c x i = x (whole (plane c) i) := by
  show x _ = x _
  refine congrArg x (funext fun a => Fin.ext ?_)
  match a with
  | ⟨0, _⟩ =>
    have hi : (i 0).val < 1 := (i 0).isLt
    show Layout.meshLin [2, 2, 2] c.val [0] * 1 + (i 0).val = (plane c).val
    rw [lin_plane]; omega
  | ⟨1, _⟩ =>
    show 0 * 2048 + (i 1).val = (i 1).val
    omega
  | ⟨2, _⟩ =>
    show 0 * 1024 + (i 2).val = (i 2).val
    omega

theorem from_whole (b : Bool) (k : Fin 2) (i : S1x2048x1024.Idx) : from' b (whole k i) = whole (place b k) i := by
  funext a
  match a with
  | ⟨0, _⟩ => rfl
  | ⟨1, _⟩ => rfl
  | ⟨2, _⟩ => rfl

variable (m : (ℓ : Loc nD τ sig) → Buf (Elt Ideal) ℓ)

/-- The final blocks are the blocks of the argument in the table's order. -/
theorem fin_block (b : Bool) (x : FVec Ideal ⟨3, ![2, 2048, 1024]⟩ .f32)
    (hx : ∀ c : Dev nD, (m ((c : Thread nD τ).loc main_arg0) : FVec Ideal S1x2048x1024 .f32) = block c x) (c : Dev nD) :
    (fin (pairing b) m c : FVec Ideal S1x2048x1024 .f32) = block c fun j => x (from' b j) := by
  funext i
  rw [block_apply]
  show xBlk m (across b (home c (rO c i))) i = _
  refine (congrFun (hx _) i).trans ?_
  rw [block_apply, plane_across, plane_home c _ (i 1).isLt, from_whole]

/-- The value claim under a table. -/
theorem algebraic (b : Bool) (ρ : Dev nD → PrngReg)
    (m' : (ℓ : Loc Cert.ReferenceIdeal.nD Cert.ReferenceIdeal.τ Cert.ReferenceIdeal.sig) → Buf (Elt Ideal) ℓ) (ρ' : Dev Cert.ReferenceIdeal.nD → PrngReg)
    (ht : ∀ c : Dev nD, (m ((c : Thread nD τ).loc main_arg1) : IVec S2 32) = table b)
    (h : ∀ c : Dev nD, (m ((c : Thread nD τ).loc main_arg0) : FVec Ideal S1x2048x1024 .f32) = block c (m' (((0 : Dev Cert.ReferenceIdeal.nD).tc : Thread _ Cert.ReferenceIdeal.τ).loc Cert.ReferenceIdeal.main_arg0))
      ∧ (m ((c : Thread nD τ).loc main_arg1) : IVec S2 32) = m' (((0 : Dev Cert.ReferenceIdeal.nD).tc : Thread _ Cert.ReferenceIdeal.τ).loc Cert.ReferenceIdeal.main_arg1)) :
    ∃ v : Buf (Elt Ideal) (((0 : Dev Cert.ReferenceIdeal.nD).tc : Thread Cert.ReferenceIdeal.nD Cert.ReferenceIdeal.τ).loc Cert.ReferenceIdeal.main_v7),
      θ_run (defs (F := Ideal)) (onTc (τ := τ) (main (F := Ideal))) ⟨m, fun _ => 0, ρ⟩ (fun r => ∀ c : Dev nD,
        r.2.mem ((c : Thread nD τ).loc main_v1) = block c v
        ∧ r.2.mem ((c : Thread nD τ).loc main_arg0) = m ((c : Thread nD τ).loc main_arg0)
        ∧ r.2.mem ((c : Thread nD τ).loc main_arg1) = m ((c : Thread nD τ).loc main_arg1))
      ∧ θ_run (Cert.ReferenceIdeal.defs (F := Ideal)) (onTc (τ := Cert.ReferenceIdeal.τ) (Cert.ReferenceIdeal.main (F := Ideal))) ⟨m', fun _ => 0, ρ'⟩ (fun r =>
        r.2.mem (((0 : Dev Cert.ReferenceIdeal.nD).tc : Thread _ Cert.ReferenceIdeal.τ).loc Cert.ReferenceIdeal.main_v7) = v
        ∧ r.2.mem (((0 : Dev Cert.ReferenceIdeal.nD).tc : Thread _ Cert.ReferenceIdeal.τ).loc Cert.ReferenceIdeal.main_arg0) = m' (((0 : Dev Cert.ReferenceIdeal.nD).tc : Thread _ Cert.ReferenceIdeal.τ).loc Cert.ReferenceIdeal.main_arg0)
        ∧ r.2.mem (((0 : Dev Cert.ReferenceIdeal.nD).tc : Thread _ Cert.ReferenceIdeal.τ).loc Cert.ReferenceIdeal.main_arg1) = m' (((0 : Dev Cert.ReferenceIdeal.nD).tc : Thread _ Cert.ReferenceIdeal.τ).loc Cert.ReferenceIdeal.main_arg1)) :=
  ⟨_, (θ_run defs _ _).mono (fun _ e c => ⟨(e.1 c).1.trans (fin_block m b _ (fun d => (h d).1) c), (e.1 c).2⟩)
      (run_main (pairing b) m ρ (aimed_of_table m b ht)),
    Cert.ReferenceProof.run_table m' ρ' b ((h 0).2.symm.trans (ht 0))⟩

end Cert.Equal

end
-- ==== Proof.lean ====
/-
# The certificate

The kernel permutes the blocks of the two planes of a mesh of 2 × 2 × 2 devices. Under a table that exchanges the planes,
and under one that leaves them, it ends with its arguments unchanged and all counters at zero, at the machine's floats and
over the extended reals; there every device's block of the result is its block of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_pi_swaps_Kernel
public import proofs.«01_k».proof.Proof.Gen.Pre_pi_swaps_ReferenceIdeal
public import proofs.«01_k».proof.Proof.Gen.Pre_pi_stays_Kernel
public import proofs.«01_k».proof.Proof.Gen.Pre_pi_stays_ReferenceIdeal
public import proofs.«01_k».proof.Proof.KernelAim
public import proofs.«01_k».proof.Proof.KernelIdealAim
public import proofs.«01_k».proof.Proof.Reference
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_pi_swaps_Kernel.Gen.facts,
    Cert.Pre_pi_stays_Kernel.Gen.facts, Cert.Pre_pi_swaps_ReferenceIdeal.Gen.facts, Cert.Pre_pi_stays_ReferenceIdeal.Gen.facts,
    fun m ρ h => Cert.KernelProof.frame_of_table m true ρ fun c => Cert.KernelProof.table_of_swaps (F := Bits) _ _ (h c),
    fun m ρ h => Cert.KernelProof.frame_of_table m false ρ fun c => Cert.KernelProof.table_of_stays (F := Bits) _ _ (h c),
    fun m ρ h => Cert.KernelIdealProof.frame_of_table m true ρ fun c => Cert.KernelIdealProof.table_of_swaps (F := Ideal) _ _ (h c),
    fun m ρ h => Cert.KernelIdealProof.frame_of_table m false ρ fun c => Cert.KernelIdealProof.table_of_stays (F := Ideal) _ _ (h c),
    fun m ρ _ => Cert.ReferenceProof.frame m ρ, fun m ρ _ => Cert.ReferenceProof.frame m ρ, fun m ρ _ => Cert.ReferenceProof.frame m ρ,
    trivial,
    fun m ρ m' ρ' hp h => Cert.Equal.algebraic m true ρ m' ρ' (fun c => Cert.KernelIdealProof.table_of_swaps (F := Ideal) _ _ (hp c)) h,
    fun m ρ m' ρ' hp h => Cert.Equal.algebraic m false ρ m' ρ' (fun c => Cert.KernelIdealProof.table_of_stays (F := Ideal) _ _ (hp c)) h⟩

end Cert.Proof

end
